-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scaled_max_in_range [hPre_scaled_max_in_range : Cert.Pre_scaled_max_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scaled_max_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scaled_max_in_range [hPre_scaled_max_in_range : Cert.Pre_scaled_max_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scaled_max_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scaled_max_in_range [hKernelIdeal : Cert.KernelIdeal.Facts] [hPre_scaled_max_in_range : Cert.Pre_scaled_max_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scaled_max_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scaled_max_in_range [hReferenceIdeal : Cert.ReferenceIdeal.Facts] [hPre_scaled_max_in_range : Cert.Pre_scaled_max_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scaled_max_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_scaled_max_in_range [hKernelIdeal : Cert.KernelIdeal.Facts] [hReferenceIdeal : Cert.ReferenceIdeal.Facts] [hPre_scaled_max_in_range : Cert.Pre_scaled_max_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scaled_max_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scaled_max_in_range : Cert.Pre_scaled_max_in_range.Facts),
    quiescent_Kernel (hKernel := hKernel)
    ∧ quiescent_KernelIdeal (hKernelIdeal := hKernelIdeal)
    ∧ quiescent_KernelIdeal_pre_scaled_max_in_range (hKernelIdeal := hKernelIdeal) (hPre_scaled_max_in_range := hPre_scaled_max_in_range)
    ∧ quiescent_ReferenceIdeal (hReferenceIdeal := hReferenceIdeal)
    ∧ quiescent_ReferenceIdeal_pre_scaled_max_in_range (hReferenceIdeal := hReferenceIdeal) (hPre_scaled_max_in_range := hPre_scaled_max_in_range)
    ∧ preserves_Kernel_KernelIdeal
    ∧ algebraic_KernelIdeal_ReferenceIdeal_pre_scaled_max_in_range (hKernelIdeal := hKernelIdeal) (hReferenceIdeal := hReferenceIdeal) (hPre_scaled_max_in_range := hPre_scaled_max_in_range)
-- ==== Pre_scaled_max_in_range.lean ====
abbrev S200x1x1536 : Shape := ⟨3, ![200, 1, 1536]⟩
abbrev S1536x8960 : Shape := ⟨2, ![1536, 8960]⟩
abbrev S8960 : Shape := ⟨1, ![8960]⟩
abbrev S8960x1536 : Shape := ⟨2, ![8960, 1536]⟩
abbrev S1536 : Shape := ⟨1, ![1536]⟩
abbrev S_ : Shape := ⟨0, ![]⟩
abbrev S200x1 : Shape := ⟨2, ![200, 1]⟩

class Facts : Prop where
  bitsLt_bf16_f32 : FTy.bits .bf16 < FTy.bits .f32
  reducesTo_S200x1x1536_S200x1_d2 : S200x1x1536.ReducesTo [2] S200x1
  h_S_ : 0 < S_.numel
  bcast_S_S200x1 : S_.BroadcastsInDim S200x1 (![] : Fin 0 → Fin S200x1.rank)

variable [Facts]

def fn {F : FTy → Type} [FloatOps F] (main_arg0 : FVec F S200x1x1536 .bf16) (main_arg1 : FVec F S1536x8960 .fp8e4m3) (main_arg2 : FVec F S8960 .f32) (main_arg3 : FVec F S8960 .f32) (main_arg4 : IVec S8960x1536 8) (main_arg5 : FVec F S1536 .f32) : IVec S200x1 1 :=
  let main_v0 : FVec F S200x1x1536 .f32 := (extf .f32 · bitsLt_bf16_f32) main_arg0
  let main_v1 : FVec F S200x1x1536 .f32 := Host.absf main_v0
  let main_cst : FVec F S_ .f32 := constant S_ .f32 0xFF800000#32
  let main_v2 : FVec F S200x1 .f32 := (fun x v => Host.reduce FloatOps.maximumf x v reducesTo_S200x1x1536_S200x1_d2 h_S_) main_v1 main_cst
  let main_cst_0 : FVec F S_ .f32 := constant S_ .f32 0x3B124925#32
  let main_v3 : FVec F S200x1 .f32 := broadcastInDim S200x1 ![] bcast_S_S200x1 main_cst_0
  let main_v4 : FVec F S200x1 .f32 := mulf main_v2 main_v3
  let main_cst_1 : FVec F S_ .f32 := constant S_ .f32 0x00000000#32
  let main_v5 : FVec F S200x1 .f32 := broadcastInDim S200x1 ![] bcast_S_S200x1 main_cst_1
  let main_v6 : IVec S200x1 1 := cmpf .oeq main_v4 main_v5
  let main_cst_2 : FVec F S_ .f32 := constant S_ .f32 0x00800000#32
  let main_v7 : FVec F S200x1 .f32 := broadcastInDim S200x1 ![] bcast_S_S200x1 main_cst_2
  let main_v8 : IVec S200x1 1 := cmpf .oge main_v4 main_v7
  let main_v9 : IVec S200x1 1 := ori main_v6 main_v8
  let main_cst_3 : FVec F S_ .f32 := constant S_ .f32 0x7E800000#32
  let main_v10 : FVec F S200x1 .f32 := broadcastInDim S200x1 ![] bcast_S_S200x1 main_cst_3
  let main_v11 : IVec S200x1 1 := cmpf .olt main_v4 main_v10
  let main_cst_4 : FVec F S_ .f32 := constant S_ .f32 0x7F800000#32
  let main_v12 : FVec F S200x1 .f32 := broadcastInDim S200x1 ![] bcast_S_S200x1 main_cst_4
  let main_v13 : IVec S200x1 1 := cmpf .oeq main_v4 main_v12
  let main_v14 : IVec S200x1 1 := ori main_v11 main_v13
  let main_v15 : IVec S200x1 1 := andi main_v9 main_v14
  main_v15
-- ==== Kernel.lean ====
abbrev S200x1x1536 : Shape := ⟨3, ![200, 1, 1536]⟩
abbrev S1536x8960 : Shape := ⟨2, ![1536, 8960]⟩
abbrev S8960 : Shape := ⟨1, ![8960]⟩
abbrev S8960x1536 : Shape := ⟨2, ![8960, 1536]⟩
abbrev S1536 : Shape := ⟨1, ![1536]⟩
abbrev S200x1536 : Shape := ⟨2, ![200, 1536]⟩
abbrev S70x128 : Shape := ⟨2, ![70, 128]⟩
abbrev S12x128 : Shape := ⟨2, ![12, 128]⟩
abbrev S200x8960 : Shape := ⟨2, ![200, 8960]⟩
abbrev S1x200 : Shape := ⟨2, ![1, 200]⟩
abbrev S1536x1280 : Shape := ⟨2, ![1536, 1280]⟩
abbrev S1280x1536 : Shape := ⟨2, ![1280, 1536]⟩
abbrev S200x1280 : Shape := ⟨2, ![200, 1280]⟩
abbrev S224x1536 : Shape := ⟨2, ![224, 1536]⟩
abbrev S200x128 : Shape := ⟨2, ![200, 128]⟩
abbrev S200 : Shape := ⟨1, ![200]⟩
abbrev S200x1 : Shape := ⟨2, ![200, 1]⟩
abbrev S200x256 : Shape := ⟨2, ![200, 256]⟩
abbrev S128x200 : Shape := ⟨2, ![128, 200]⟩
abbrev S224x1280 : Shape := ⟨2, ![224, 1280]⟩
abbrev S1x128 : Shape := ⟨2, ![1, 128]⟩

abbrev nBuf : Space → Nat
  | .hbm => 14
  | .vmem => 16
  | .smem => 0
  | _ => 0

abbrev bufTy : (tb : Table) → Fin (tcTables nBuf tb) → BufTy
  | .hbm, ⟨0, _⟩ => ⟨S200x1x1536, .bf16⟩
  | .hbm, ⟨1, _⟩ => ⟨S1536x8960, .fp8e4m3⟩
  | .hbm, ⟨2, _⟩ => ⟨S8960, .f32⟩
  | .hbm, ⟨3, _⟩ => ⟨S8960, .f32⟩
  | .hbm, ⟨4, _⟩ => ⟨S8960x1536, .i8⟩
  | .hbm, ⟨5, _⟩ => ⟨S1536, .f32⟩
  | .hbm, ⟨6, _⟩ => ⟨S200x1536, .bf16⟩
  | .hbm, ⟨7, _⟩ => ⟨S70x128, .f32⟩
  | .hbm, ⟨8, _⟩ => ⟨S70x128, .f32⟩
  | .hbm, ⟨9, _⟩ => ⟨S12x128, .f32⟩
  | .hbm, ⟨10, _⟩ => ⟨S200x1536, .bf16⟩
  | .hbm, ⟨11, _⟩ => ⟨S200x8960, .bf16⟩
  | .hbm, ⟨12, _⟩ => ⟨S200x1536, .fp8e4m3⟩
  | .hbm, ⟨13, _⟩ => ⟨S1x200, .f32⟩
  | .local _ .vmem, ⟨0, _⟩ => ⟨S200x1536, .bf16⟩
  | .local _ .vmem, ⟨1, _⟩ => ⟨S1536x1280, .fp8e4m3⟩
  | .local _ .vmem, ⟨2, _⟩ => ⟨S1536x1280, .fp8e4m3⟩
  | .local _ .vmem, ⟨3, _⟩ => ⟨S70x128, .f32⟩
  | .local _ .vmem, ⟨4, _⟩ => ⟨S70x128, .f32⟩
  | .local _ .vmem, ⟨5, _⟩ => ⟨S1280x1536, .i8⟩
  | .local _ .vmem, ⟨6, _⟩ => ⟨S1280x1536, .i8⟩
  | .local _ .vmem, ⟨7, _⟩ => ⟨S12x128, .f32⟩
  | .local _ .vmem, ⟨8, _⟩ => ⟨S200x1536, .bf16⟩
  | .local _ .vmem, ⟨9, _⟩ => ⟨S200x1280, .bf16⟩
  | .local _ .vmem, ⟨10, _⟩ => ⟨S200x1280, .bf16⟩
  | .local _ .vmem, ⟨11, _⟩ => ⟨S200x1536, .fp8e4m3⟩
  | .local _ .vmem, ⟨12, _⟩ => ⟨S1x200, .f32⟩
  | .local _ .vmem, ⟨13, _⟩ => ⟨S224x1536, .fp8e4m3⟩
  | .local _ .vmem, ⟨14, _⟩ => ⟨S200x128, .f32⟩
  | .local _ .vmem, ⟨15, _⟩ => ⟨S200x1536, .f32⟩
  | _, _ => ⟨S200x1x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![7], ![false]⟩

def k0_off1 (i : grid0.Coords) (c0_i32_6 : BitVec 32) : Fin 2 → Nat :=
  let arg0 : BitVec 32 := BitVec.ofNat 32 (i 0).val
  let c10_i32 : BitVec 32 := 10#32
  let v8 : BitVec 32 := Scalar.muli arg0 c10_i32
  let v9 : BitVec 32 := Scalar.addi v8 c0_i32_6
  let v12 : Index := Scalar.indexCast v9
  let c0_7 : Index := 0#32
  ![v12.toNat, 0]
def k0_cond2 (i : grid0.Coords) : BitVec 1 :=
  let arg0 : BitVec 32 := BitVec.ofNat 32 (i 0).val
  let c6_i32_55 : BitVec 32 := 6#32
  let v188 : BitVec 1 := Scalar.cmpi .eq arg0 c6_i32_55
  let v189 : BitVec 32 := Scalar.extui v188
  let c0_i32_56 : BitVec 32 := 0#32
  let v190 : BitVec 1 := Scalar.cmpi .ne v189 c0_i32_56
  v190

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S200x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x1280 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S70x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S70x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1280x1536 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S12x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S200x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S200x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S200x1536 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x200 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S200x1x1536 : Shape := ⟨3, ![200, 1, 1536]⟩
abbrev S1536x8960 : Shape := ⟨2, ![1536, 8960]⟩
abbrev S8960 : Shape := ⟨1, ![8960]⟩
abbrev S8960x1536 : Shape := ⟨2, ![8960, 1536]⟩
abbrev S1536 : Shape := ⟨1, ![1536]⟩
abbrev S200x1536 : Shape := ⟨2, ![200, 1536]⟩
abbrev S1x8960 : Shape := ⟨2, ![1, 8960]⟩
abbrev S1x1536 : Shape := ⟨2, ![1, 1536]⟩
abbrev S200x8960 : Shape := ⟨2, ![200, 8960]⟩
abbrev S1x200 : Shape := ⟨2, ![1, 200]⟩
abbrev S200 : Shape := ⟨1, ![200]⟩
abbrev S200x1 : Shape := ⟨2, ![200, 1]⟩

abbrev nBuf : Space → Nat
  | .hbm => 14
  | .vmem => 10
  | .smem => 0
  | _ => 0

abbrev bufTy : (tb : Table) → Fin (tcTables nBuf tb) → BufTy
  | .hbm, ⟨0, _⟩ => ⟨S200x1x1536, .bf16⟩
  | .hbm, ⟨1, _⟩ => ⟨S1536x8960, .fp8e4m3⟩
  | .hbm, ⟨2, _⟩ => ⟨S8960, .f32⟩
  | .hbm, ⟨3, _⟩ => ⟨S8960, .f32⟩
  | .hbm, ⟨4, _⟩ => ⟨S8960x1536, .i8⟩
  | .hbm, ⟨5, _⟩ => ⟨S1536, .f32⟩
  | .hbm, ⟨6, _⟩ => ⟨S200x1536, .bf16⟩
  | .hbm, ⟨7, _⟩ => ⟨S1x8960, .f32⟩
  | .hbm, ⟨8, _⟩ => ⟨S1x8960, .f32⟩
  | .hbm, ⟨9, _⟩ => ⟨S1x1536, .f32⟩
  | .hbm, ⟨10, _⟩ => ⟨S200x1536, .bf16⟩
  | .hbm, ⟨11, _⟩ => ⟨S200x8960, .bf16⟩
  | .hbm, ⟨12, _⟩ => ⟨S200x1536, .fp8e4m3⟩
  | .hbm, ⟨13, _⟩ => ⟨S1x200, .f32⟩
  | .local _ .vmem, ⟨0, _⟩ => ⟨S200x1536, .bf16⟩
  | .local _ .vmem, ⟨1, _⟩ => ⟨S1536x8960, .fp8e4m3⟩
  | .local _ .vmem, ⟨2, _⟩ => ⟨S1x8960, .f32⟩
  | .local _ .vmem, ⟨3, _⟩ => ⟨S1x8960, .f32⟩
  | .local _ .vmem, ⟨4, _⟩ => ⟨S8960x1536, .i8⟩
  | .local _ .vmem, ⟨5, _⟩ => ⟨S1x1536, .f32⟩
  | .local _ .vmem, ⟨6, _⟩ => ⟨S200x1536, .bf16⟩
  | .local _ .vmem, ⟨7, _⟩ => ⟨S200x8960, .bf16⟩
  | .local _ .vmem, ⟨8, _⟩ => ⟨S200x1536, .fp8e4m3⟩
  | .local _ .vmem, ⟨9, _⟩ => ⟨S1x200, .f32⟩
  | _, _ => ⟨S200x1x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S200x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x8960 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8960 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8960 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8960x1536 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S200x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S200x8960 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S200x1536 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x200 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KRun.Kit.lean ====
/- The kernel's branch conditions over the grid, where its windows are idle and written back, and the memrefs its body is run on. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_0, e0]
    word_cmp
   : ∀ t : Fin grid0.N, cond0_0 (grid0.coords t) ↔ t.val % 7 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 7 = 6 :=
  (fun t => by
    have ht : t.val < 7 := Nat.lt_of_lt_of_eq t.isLt N_0
    have e0 : (grid0.coords t 0).val = t.val / 1 % 7 := Pipeline.Grid.coords_val t 0 (by decide) rfl
    simp only [cond0_1, k0_cond2, e0]
    word_cmp
   : ∀ t : Fin grid0.N, cond0_1 (grid0.coords t) ↔ t.val % 7 = 6)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 7 is never idle (an output stored at every point, under no condition). -/
theorem liveAt0_7 : ∀ t : Fin cfg0.N, cfg0.idle 7 (grid0.coords t) = false := fun _ => rfl
/-- Window 8 is live at the first point. -/
theorem liveAt0_8_A : ∀ t : Fin cfg0.N, cond0_0 (grid0.coords t) → cfg0.idle 8 (grid0.coords t) = false := by decide +kernel
/-- Window 9 is live at the first point. -/
theorem liveAt0_9_A : ∀ t : Fin cfg0.N, cond0_0 (grid0.coords t) → cfg0.idle 9 (grid0.coords t) = false := by decide +kernel
/-- Window 8 is idle at every later point. -/
theorem idleAt0_8 : ∀ t : Fin cfg0.N, ¬cond0_0 (grid0.coords t) → cfg0.idle 8 (grid0.coords t) = true := by decide +kernel
/-- Window 9 is idle at every later point. -/
theorem idleAt0_9 : ∀ t : Fin cfg0.N, ¬cond0_0 (grid0.coords t) → cfg0.idle 9 (grid0.coords t) = true := by decide +kernel
/-- Window 8 is not written back before the last point. -/
theorem noFlush0_8 : ∀ t : Fin cfg0.N, ¬cond0_1 (grid0.coords t) → (cfg0.win 8).flush t = false := by decide +kernel
/-- Window 9 is not written back before the last point. -/
theorem noFlush0_9 : ∀ t : Fin cfg0.N, ¬cond0_1 (grid0.coords t) → (cfg0.win 9).flush t = false := by decide +kernel
/-- Window 8 is written back at the last point. -/
theorem flush0_8_C : ∀ t : Fin cfg0.N, cond0_1 (grid0.coords t) → (cfg0.win 8).flush t = true := by decide +kernel
/-- Window 9 is written back at the last point. -/
theorem flush0_9_C : ∀ t : Fin cfg0.N, cond0_1 (grid0.coords t) → (cfg0.win 9).flush t = true := by decide +kernel
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel

/-! ## The kernel body on any staging memrefs: a subtype the run finds -/

/-- One staging buffer of output window 6, through which its contents are stated (`View.read_writes_of_cover`: the
    choice does not matter). -/
abbrev VO0_6 : View sig .tc .vmem S200x1536 .bf16 := (Memref.whole cc0_stg6_0 : Memref sig .tc .vmem S200x1536 .bf16).view
/-- One staging buffer of output window 7, through which its contents are stated (`View.read_writes_of_cover`: the
    choice does not matter). -/
abbrev VO0_7 : View sig .tc .vmem S200x1280 .bf16 := (Memref.whole cc0_stg7_0 : Memref sig .tc .vmem S200x1280 .bf16).view
/-- One staging buffer of output window 8, through which its contents are stated (`View.read_writes_of_cover`: the
    choice does not matter). -/
abbrev VO0_8 : View sig .tc .vmem S200x1536 .fp8e4m3 := (Memref.whole cc0_stg8_0 : Memref sig .tc .vmem S200x1536 .fp8e4m3).view
/-- One staging buffer of output window 9, through which its contents are stated (`View.read_writes_of_cover`: the
    choice does not matter). -/
abbrev VO0_9 : View sig .tc .vmem S1x200 .f32 := (Memref.whole cc0_stg9_0 : Memref sig .tc .vmem S1x200 .f32).view
/-- Each window's current staging memref at point `t`, spelled as the pipeline passes it (`bodyAt0`), and its wholeness. -/
abbrev ms0_0 (t : Fin cfg0.N) : Memref sig .tc .vmem S200x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x1280 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S70x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S70x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1280x1536 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S12x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S200x1536 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S200x1280 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S200x1536 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x200 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S224x1536 .fp8e4m3 := Memref.whole cc0_scratch0
abbrev scM0_1 : Memref sig .tc .vmem S200x128 .f32 := Memref.whole cc0_scratch1
abbrev scM0_2 : Memref sig .tc .vmem S200x1536 .f32 := Memref.whole cc0_scratch2
/-- The scratch `arg11` the kernel carries between points, as a view: what it holds is stated through it. -/
abbrev VS0_0 : View sig .tc .vmem S224x1536 .fp8e4m3 := scM0_0.view
/-- The scratch `arg12` the kernel carries between points, as a view: what it holds is stated through it. -/
abbrev VS0_1 : View sig .tc .vmem S200x128 .f32 := scM0_1.view
/-- The scratch `arg13` the kernel carries between points, as a view: what it holds is stated through it. -/
abbrev VS0_2 : View sig .tc .vmem S200x1536 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Run

end
-- ==== Proof.KRun.RunA.lean ====
/- The body's run in case A. -/
module

public import proofs.«01_k».proof.Proof.KRun.Kit

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The pieces case A of the body leaves in each buffer it stores into (outputs 6 to 9, then the three scratch
    buffers), with the triple of the run that leaves them; a buffer the case leaves alone keeps its contents. -/
noncomputable def kernelRun0_A (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : cond0_0 i) (hc1 : ¬cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) :
    Σ' (L6 : List (View.Piece (Elt F) S200x1536 .bf16)), Σ' (L7 : List (View.Piece (Elt F) S200x1280 .bf16)), Σ' (L8 : List (View.Piece (Elt F) S200x1536 .fp8e4m3)), Σ' (L9 : List (View.Piece (Elt F) S1x200 .f32)), Σ' (LS0 : List (View.Piece (Elt F) S224x1536 .fp8e4m3)), Σ' (LS1 : List (View.Piece (Elt F) S200x128 .f32)), { LS2 : List (View.Piece (Elt F) S200x1536 .f32) //
      ∀ (xi6 : Vec F S200x1536 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨[], ?_, ?_, ?_, ?_, ?_, ?_, fun xi6 E K => ?run⟩
  case run =>
    simp only [cc0__body_eq_skeleton]; unfold cc0__body_skel
    simp only [k0_part4_eq_skeleton, k0_part1_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [HS0]; · iexists _; iexact HS0
    isplitl [HS1]; · iexists _; iexact HS1
    iexists _; iexact HS2

end Cert.Kernel.Run

end
-- ==== Proof.KRun.RunB.lean ====
/- The body's run in case B. -/
module

public import proofs.«01_k».proof.Proof.KRun.RunA

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1200000 in
/-- The pieces case B of the body leaves in each buffer it stores into (outputs 6 to 9, then the three scratch
    buffers), with the triple of the run that leaves them; a buffer the case leaves alone keeps its contents. -/
noncomputable def kernelRun0_B (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : ¬cond0_0 i) (hc1 : ¬cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) (xs0 : Vec F S224x1536 .fp8e4m3) (xs1 : Vec F S200x128 .f32) (xs2 : Vec F S200x1536 .f32) :
    Σ' (L6 : List (View.Piece (Elt F) S200x1536 .bf16)), Σ' (L7 : List (View.Piece (Elt F) S200x1280 .bf16)), Σ' (L8 : List (View.Piece (Elt F) S200x1536 .fp8e4m3)), Σ' (L9 : List (View.Piece (Elt F) S1x200 .f32)), Σ' (LS0 : List (View.Piece (Elt F) S224x1536 .fp8e4m3)), Σ' (LS1 : List (View.Piece (Elt F) S200x128 .f32)), { LS2 : List (View.Piece (Elt F) S200x1536 .f32) //
      ∀ (xi6 : Vec F S200x1536 .bf16) (xi8 : Vec F S200x1536 .fp8e4m3) (xi9 : Vec F S1x200 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d) ∗ owns (c : Thread nD τ) arg9 fullShare xi8 ∗ owns (c : Thread nD τ) arg10 fullShare xi9 ∗ owns (c : Thread nD τ) arg11 fullShare xs0 ∗ owns (c : Thread nD τ) arg12 fullShare xs1 ∗ owns (c : Thread nD τ) arg13 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f L7) ∗ owns (c : Thread nD τ) arg9 fullShare xi8 ∗ owns (c : Thread nD τ) arg10 fullShare xi9 ∗ owns (c : Thread nD τ) arg11 fullShare xs0 ∗ owns (c : Thread nD τ) arg12 fullShare xs1 ∗ (∃ f, arg13.view.loc (c : Thread nD τ) ↦[arg13.view.set]{fullShare} arg13.view.writes (Elt F) f LS2)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨[], ?_, [], [], [], [], ?_, fun xi6 xi8 xi9 E K => ?run⟩
  case run =>
    simp only [cc0__body_eq_skeleton]; unfold cc0__body_skel
    simp only [k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9; obtain rfl := harg11.eq_unread hfs0; obtain rfl := harg12.eq_unread hfs1; obtain rfl := harg13.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]
    · iexists _; isplitr; · ipureintro; exact harg11.read_unread _
      iexact HS0
    isplitl [HS1]
    · iexists _; isplitr; · ipureintro; exact harg12.read_unread _
      iexact HS1
    iexists _; iexact HS2

end Cert.Kernel.Run

end
-- ==== Proof.KRun.RunC.lean ====
/- The body's run in case C. -/
module

public import proofs.«01_k».proof.Proof.KRun.RunB

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1200000 in
/-- The pieces case C of the body leaves in each buffer it stores into (outputs 6 to 9, then the three scratch
    buffers), with the triple of the run that leaves them; a buffer the case leaves alone keeps its contents. -/
noncomputable def kernelRun0_C (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : ¬cond0_0 i) (hc1 : cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) (xs0 : Vec F S224x1536 .fp8e4m3) (xs1 : Vec F S200x128 .f32) (xs2 : Vec F S200x1536 .f32) :
    Σ' (L6 : List (View.Piece (Elt F) S200x1536 .bf16)), Σ' (L7 : List (View.Piece (Elt F) S200x1280 .bf16)), Σ' (L8 : List (View.Piece (Elt F) S200x1536 .fp8e4m3)), Σ' (L9 : List (View.Piece (Elt F) S1x200 .f32)), Σ' (LS0 : List (View.Piece (Elt F) S224x1536 .fp8e4m3)), Σ' (LS1 : List (View.Piece (Elt F) S200x128 .f32)), { LS2 : List (View.Piece (Elt F) S200x1536 .f32) //
      ∀ (xi8 : Vec F S200x1536 .fp8e4m3) (xi9 : Vec F S1x200 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xi8 ∗ owns (c : Thread nD τ) arg10 fullShare xi9 ∗ owns (c : Thread nD τ) arg11 fullShare xs0 ∗ owns (c : Thread nD τ) arg12 fullShare xs1 ∗ owns (c : Thread nD τ) arg13 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xi8 ∗ owns (c : Thread nD τ) arg10 fullShare xi9 ∗ owns (c : Thread nD τ) arg11 fullShare xs0 ∗ owns (c : Thread nD τ) arg12 fullShare xs1 ∗ (∃ f, arg13.view.loc (c : Thread nD τ) ↦[arg13.view.set]{fullShare} arg13.view.writes (Elt F) f LS2)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, [], [], [], [], ?_, fun xi8 xi9 E K => ?run⟩
  case run =>
    simp only [cc0__body_eq_skeleton]; unfold cc0__body_skel
    simp only [k0_part4_eq_skeleton, k0_part5_eq_skeleton, k0_part6_eq_skeleton, k0_part7_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg10.eq_unread hf9; obtain rfl := harg11.eq_unread hfs0; obtain rfl := harg12.eq_unread hfs1; obtain rfl := harg13.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]
    · iexists _; isplitr; · ipureintro; exact harg11.read_unread _
      iexact HS0
    isplitl [HS1]
    · iexists _; isplitr; · ipureintro; exact harg12.read_unread _
      iexact HS1
    iexists _; iexact HS2

end Cert.Kernel.Run

end
-- ==== Proof.KRun.Steps.lean ====
/- What the kernel's body leaves in each buffer, as functions of the blocks it loads and of what its scratch holds. -/
module

public import proofs.«01_k».proof.Proof.KRun.RunC
public import Idealize.ShloMosaic.Lib.Pipeline.Value
public import Idealize.ShloMosaic.Lib.PointwiseCore

@[expose] public section

set_option maxRecDepth 16384

noncomputable section

namespace Cert.Kernel.Run

open Idealize.ShloMosaic Idealize.ShloMosaic.TcCoe Idealize.ShloMosaic.Tactic
open Idealize.SL Idealize.SL.RA Idealize.SL.BI
open Cert.Kernel Cert.Kernel.Gen

variable {F : FTy → Type} [FloatOps F]

/-! ## The closed forms -/

/-- The fp8 codes of the activation block `x`. -/
def codesOf (x : Vec F S200x1536 .bf16) : Vec F S200x1536 .fp8e4m3 := k0_pay19 (k0_pay6 x) (k0_pay9 x)

/-- The row of scales of the activation block `x`. -/
def scalesOf (x : Vec F S200x1536 .bf16) : Vec F S1x200 .f32 := k0_pay24 (k0_pay8 x)

/-- The scales of `x`, each spread along its row of 128 lanes. -/
def sbOf (x : Vec F S200x1536 .bf16) : Vec F S200x128 .f32 := k0_pay23 (k0_pay8 x)

/-- The two stores into the padded code buffer, the last first: the codes over rows 0 to 199, zeros everywhere. -/
def xqPieces (x : Vec F S200x1536 .bf16) : List (View.Piece (Elt F) S224x1536 .fp8e4m3) :=
  [⟨Rect.unit (s := S224x1536) ![0, 0] S200x1536.size inb_S224x1536_S200x1536_0_0, k0_pay21 (k0_pay6 x) (k0_pay9 x)⟩,
   ⟨Rect.unit (s := S224x1536) ![0, 0] S224x1536.size inb_S224x1536_S224x1536_0_0, k0_pay20⟩]

/-- The padded code buffer: the codes of `x` over 24 rows of zeros. -/
def xqOf (x : Vec F S200x1536 .bf16) : Vec F S224x1536 .fp8e4m3 := View.canon (xqPieces x)

/-- Row `r` of a per-column operand held as 70 rows of 128 lanes. -/
def rowAt (v : Vec F S70x128 .f32) (r : ℕ) : Vec F S1x128 .f32 :=
  fun y => v (fun a => match a with | ⟨0, _⟩ => ⟨r % 70, Nat.mod_lt _ (by decide)⟩ | ⟨1, _⟩ => ⟨(y 1).val, (y 1).isLt⟩)

/-- Grid point `n`'s block of hidden values. -/
def hOf (n : ℕ) (xq : Vec F S224x1536 .fp8e4m3) (sb : Vec F S200x128 .f32) (wu : Vec F S1536x1280 .fp8e4m3)
    (su b : Vec F S70x128 .f32) : Vec F S200x1280 .bf16 :=
  k0_pay37 (k0_pay26 xq wu) sb (k0_pay27 xq wu sb (rowAt su (n * 10 + 0)) (rowAt b (n * 10 + 0)))
    (k0_pay29 (k0_pay28 xq wu sb (rowAt su (n * 10 + 1)) (rowAt b (n * 10 + 1))) (FloatOps.ofBits .f32 0#32))
    (k0_pay30 (k0_pay26 xq wu) sb (rowAt su (n * 10 + 2)) (rowAt b (n * 10 + 2)))
    (k0_pay31 (k0_pay26 xq wu) sb (rowAt su (n * 10 + 3)) (rowAt b (n * 10 + 3)))
    (k0_pay33 (k0_pay32 (k0_pay26 xq wu) sb (rowAt su (n * 10 + 4))) (rowAt b (n * 10 + 4)))
    (k0_pay34 (k0_pay26 xq wu) sb (rowAt su (n * 10 + 5)) (rowAt b (n * 10 + 5)))
    (k0_pay35 (k0_pay26 xq wu) sb (rowAt su (n * 10 + 6)) (rowAt b (n * 10 + 6)))
    (k0_pay36 (k0_pay26 xq wu) sb) (rowAt su (n * 10 + 7)) (rowAt b (n * 10 + 7)) (rowAt su (n * 10 + 8)) (rowAt b (n * 10 + 8))
    (rowAt su (n * 10 + 9)) (rowAt b (n * 10 + 9))

/-- The down-projection's accumulator after one more block of hidden values. -/
def accOf (h : Vec F S200x1280 .bf16) (acc : Vec F S200x1536 .f32) (wd : Vec F S1280x1536 .i8) : Vec F S200x1536 .f32 :=
  k0_pay1 h acc wd

/-- The result `y` from the finished accumulator: each column times its weight scale, rounded to bf16. -/
def yOf (acc : Vec F S200x1536 .f32) (sd : Vec F S12x128 .f32) : Vec F S200x1536 .bf16 :=
  truncf .bf16 (mulf acc (fun y => sd (fun a => match a with
    | ⟨0, _⟩ => ⟨(y 1).val / 128, by have h1 : (y 1).val < 1536 := (y 1).isLt; show (y 1).val / 128 < 12; omega⟩
    | ⟨1, _⟩ => ⟨(y 1).val % 128, by show (y 1).val % 128 < 128; omega⟩))) bitsLt_bf16_f32

/-- The row a load takes of a per-column operand, its number computed in 32-bit words from the grid point. -/
theorem ld_row (v : Vec F S70x128 .f32) (i : grid0.Coords) (k : Fin 10)
    (inb : ∀ a, k0_off1 i (BitVec.ofNat 32 k.val) a + S1x128.size a ≤ S70x128.size a) :
    View.ld v (Rect.unit (s := S70x128) (k0_off1 i (BitVec.ofNat 32 k.val)) S1x128.size inb) = rowAt v ((i 0).val * 10 + k.val) := by
  have hi : (i 0).val < 7 := (i 0).isLt
  have e : k0_off1 i (BitVec.ofNat 32 k.val) 0 = (i 0).val * 10 + k.val := by
    have h10 : ∀ n : Fin 7, ∀ k : Fin 10, BitVec.toNat (Scalar.indexCast (Scalar.addi (Scalar.muli (BitVec.ofNat 32 n.val) 10#32) (BitVec.ofNat 32 k.val))) = n.val * 10 + k.val := by decide +kernel
    exact h10 ⟨(i 0).val, hi⟩ k
  funext y
  have hy0 : (y 0).val < 1 := (y 0).isLt
  have hk := k.isLt
  refine congrArg v (funext fun a => Fin.ext ?_)
  match a with
  | ⟨0, _⟩ =>
    show k0_off1 i (BitVec.ofNat 32 k.val) 0 + 1 * (y 0).val = ((i 0).val * 10 + k.val) % 70
    have e' := e
    omega
  | ⟨1, _⟩ => show 0 + 1 * (y 1).val = (y 1).val; omega

/-- A load of a whole buffer reads what the stores into it left. -/
theorem readCov_whole {S : Shape} {e : EltTy} {κ : Kind} {sp : Space} (v : View sig κ sp S e) {off : Fin S.rank → ℕ}
    (h : off = fun _ => 0) (inb : ∀ a, off a + S.size a ≤ S.size a) (L : List (View.Piece (Elt F) S e)) :
    v.readCov L (Rect.unit off S.size inb).toLoadRect = View.canon L := by
  subst h
  rw [View.readCov_eq_canon']
  funext j
  exact congrArg (View.canon L) ((Rect.emb_whole_apply (s := S) j))

/-- A column tile of the result `y` as the last point computes it, at an index of the tile. -/
theorem y_tile (v : View sig .tc .vmem S200x1536 .f32) (acc : Vec F S200x1536 .f32) (sd : Vec F S12x128 .f32) (inb0 : ∀ a, (![0, 0] : Fin 2 → ℕ) a + S200x1536.size a ≤ S200x1536.size a)
    (n : ℕ) (inb : ∀ a, (![0, n * 128] : Fin 2 → ℕ) a + S200x128.size a ≤ S200x1536.size a)
    (inb' : ∀ a, (![n, 0] : Fin 2 → ℕ) a + S1x128.size a ≤ S12x128.size a) (x : S200x128.Idx) :
    k0_pay10 (v.readCov [⟨Rect.unit (s := S200x1536) ![0, 0] S200x1536.size inb0, acc⟩] (Rect.unit (s := S200x1536) ![0, n * 128] S200x128.size inb).toLoadRect)
        (View.ld sd (Rect.unit (s := S12x128) ![n, 0] S1x128.size inb')) x
      = yOf acc sd ((Rect.unit (s := S200x1536) ![0, n * 128] S200x128.size inb).emb x) := by
  have hz : (![0, 0] : Fin 2 → ℕ) = fun _ => 0 := by funext a; fin_cases a <;> rfl
  have hx1 : (x 1).val < 128 := (x 1).isLt
  have hx0 : (x 0).val < 200 := (x 0).isLt
  have hn : n < 12 := by have := inb' 0; simp at this; omega
  rw [View.readCov_eq_canon', View.canon_unit_zero hz]
  unfold k0_pay10 yOf
  pointwise
  have e1 : (Rect.unit (s := S200x1536) ![0, n * 128] S200x128.size inb).emb x = ix2 (x 0) ⟨n * 128 + (x 1).val, by omega⟩ := by
    funext a; fin_cases a <;> apply Fin.ext <;> simp [Rect.emb, Rect.unit, ix2]
  rw [e1]
  refine congrArg _ (congrArg₂ _ rfl (congrArg sd ?_))
  funext a; fin_cases a <;> apply Fin.ext <;> simp [ix2] <;> omega

/-- The twelve column tiles of `y` together are the whole result. -/
theorem y_canon (v : View sig .tc .vmem S200x1536 .f32) (acc : Vec F S200x1536 .f32) (sd : Vec F S12x128 .f32)
    (L : List (View.Piece (Elt F) S200x1536 .bf16))
    (hL : L = [⟨Rect.unit (s := S200x1536) ![0, 1408] S200x128.size inb_S200x1536_S200x128_0_1408, k0_pay5 (v.readCov [⟨Rect.unit (s := S200x1536) ![0, 0] S200x1536.size inb_S200x1536_S200x1536_0_0, acc⟩] (Rect.unit (s := S200x1536) ![0, 1408] S200x128.size inb_S200x1536_S200x128_0_1408).toLoadRect) (View.ld sd (Rect.unit (s := S12x128) ![11, 0] S1x128.size inb_S12x128_S1x128_11_0))⟩,
      ⟨Rect.unit (s := S200x1536) ![0, 1280] S200x128.size inb_S200x1536_S200x128_0_1280, k0_pay4 (v.readCov [⟨Rect.unit (s := S200x1536) ![0, 0] S200x1536.size inb_S200x1536_S200x1536_0_0, acc⟩] (Rect.unit (s := S200x1536) ![0, 1280] S200x128.size inb_S200x1536_S200x128_0_1280).toLoadRect) (View.ld sd (Rect.unit (s := S12x128) ![10, 0] S1x128.size inb_S12x128_S1x128_10_0))⟩,
      ⟨Rect.unit (s := S200x1536) ![0, 1152] S200x128.size inb_S200x1536_S200x128_0_1152, k0_pay3 (v.readCov [⟨Rect.unit (s := S200x1536) ![0, 0] S200x1536.size inb_S200x1536_S200x1536_0_0, acc⟩] (Rect.unit (s := S200x1536) ![0, 1152] S200x128.size inb_S200x1536_S200x128_0_1152).toLoadRect) (View.ld sd (Rect.unit (s := S12x128) ![9, 0] S1x128.size inb_S12x128_S1x128_9_0))⟩,
      ⟨Rect.unit (s := S200x1536) ![0, 1024] S200x128.size inb_S200x1536_S200x128_0_1024, k0_pay2 (v.readCov [⟨Rect.unit (s := S200x1536) ![0, 0] S200x1536.size inb_S200x1536_S200x1536_0_0, acc⟩] (Rect.unit (s := S200x1536) ![0, 1024] S200x128.size inb_S200x1536_S200x128_0_1024).toLoadRect) (k0_pay18 (View.ld sd (Rect.unit (s := S12x128) ![8, 0] S1x128.size inb_S12x128_S1x128_8_0)))⟩,
      ⟨Rect.unit (s := S200x1536) ![0, 896] S200x128.size inb_S200x1536_S200x128_0_896, k0_pay17 (v.readCov [⟨Rect.unit (s := S200x1536) ![0, 0] S200x1536.size inb_S200x1536_S200x1536_0_0, acc⟩] (Rect.unit (s := S200x1536) ![0, 896] S200x128.size inb_S200x1536_S200x128_0_896).toLoadRect) (View.ld sd (Rect.unit (s := S12x128) ![7, 0] S1x128.size inb_S12x128_S1x128_7_0))⟩,
      ⟨Rect.unit (s := S200x1536) ![0, 768] S200x128.size inb_S200x1536_S200x128_0_768, k0_pay16 (v.readCov [⟨Rect.unit (s := S200x1536) ![0, 0] S200x1536.size inb_S200x1536_S200x1536_0_0, acc⟩] (Rect.unit (s := S200x1536) ![0, 768] S200x128.size inb_S200x1536_S200x128_0_768).toLoadRect) (View.ld sd (Rect.unit (s := S12x128) ![6, 0] S1x128.size inb_S12x128_S1x128_6_0))⟩,
      ⟨Rect.unit (s := S200x1536) ![0, 640] S200x128.size inb_S200x1536_S200x128_0_640, k0_pay15 (v.readCov [⟨Rect.unit (s := S200x1536) ![0, 0] S200x1536.size inb_S200x1536_S200x1536_0_0, acc⟩] (Rect.unit (s := S200x1536) ![0, 640] S200x128.size inb_S200x1536_S200x128_0_640).toLoadRect) (View.ld sd (Rect.unit (s := S12x128) ![5, 0] S1x128.size inb_S12x128_S1x128_5_0))⟩,
      ⟨Rect.unit (s := S200x1536) ![0, 512] S200x128.size inb_S200x1536_S200x128_0_512, k0_pay14 (v.readCov [⟨Rect.unit (s := S200x1536) ![0, 0] S200x1536.size inb_S200x1536_S200x1536_0_0, acc⟩] (Rect.unit (s := S200x1536) ![0, 512] S200x128.size inb_S200x1536_S200x128_0_512).toLoadRect) (View.ld sd (Rect.unit (s := S12x128) ![4, 0] S1x128.size inb_S12x128_S1x128_4_0))⟩,
      ⟨Rect.unit (s := S200x1536) ![0, 384] S200x128.size inb_S200x1536_S200x128_0_384, k0_pay13 (v.readCov [⟨Rect.unit (s := S200x1536) ![0, 0] S200x1536.size inb_S200x1536_S200x1536_0_0, acc⟩] (Rect.unit (s := S200x1536) ![0, 384] S200x128.size inb_S200x1536_S200x128_0_384).toLoadRect) (View.ld sd (Rect.unit (s := S12x128) ![3, 0] S1x128.size inb_S12x128_S1x128_3_0))⟩,
      ⟨Rect.unit (s := S200x1536) ![0, 256] S200x128.size inb_S200x1536_S200x128_0_256, k0_pay12 (v.readCov [⟨Rect.unit (s := S200x1536) ![0, 0] S200x1536.size inb_S200x1536_S200x1536_0_0, acc⟩] (Rect.unit (s := S200x1536) ![0, 256] S200x128.size inb_S200x1536_S200x128_0_256).toLoadRect) (View.ld sd (Rect.unit (s := S12x128) ![2, 0] S1x128.size inb_S12x128_S1x128_2_0))⟩,
      ⟨Rect.unit (s := S200x1536) ![0, 128] S200x128.size inb_S200x1536_S200x128_0_128, k0_pay11 (v.readCov [⟨Rect.unit (s := S200x1536) ![0, 0] S200x1536.size inb_S200x1536_S200x1536_0_0, acc⟩] (Rect.unit (s := S200x1536) ![0, 128] S200x128.size inb_S200x1536_S200x128_0_128).toLoadRect) (View.ld sd (Rect.unit (s := S12x128) ![1, 0] S1x128.size inb_S12x128_S1x128_1_0))⟩,
      ⟨Rect.unit (s := S200x1536) ![0, 0] S200x128.size inb_S200x1536_S200x128_0_0, k0_pay10 (v.readCov [⟨Rect.unit (s := S200x1536) ![0, 0] S200x1536.size inb_S200x1536_S200x1536_0_0, acc⟩] (Rect.unit (s := S200x1536) ![0, 0] S200x128.size inb_S200x1536_S200x128_0_0).toLoadRect) (View.ld sd (Rect.unit (s := S12x128) ![0, 0] S1x128.size inb_S12x128_S1x128_0_0))⟩]) :
    View.canon L = yOf acc sd := by
  funext y
  refine View.canon_apply_of_pieces (yOf acc sd) L ?_ y (View.cover_of_tiledL L S200x128.size (by subst hL; sl_kernel_rfl) y)
  subst hL
  intro p hp
  simp only [List.mem_cons, List.not_mem_nil, or_false] at hp
  rcases hp with rfl | rfl | rfl | rfl | rfl | rfl | rfl | rfl | rfl | rfl | rfl | rfl
  · exact fun x => y_tile v acc sd _ 11 inb_S200x1536_S200x128_0_1408 inb_S12x128_S1x128_11_0 x
  · exact fun x => y_tile v acc sd _ 10 inb_S200x1536_S200x128_0_1280 inb_S12x128_S1x128_10_0 x
  · exact fun x => y_tile v acc sd _ 9 inb_S200x1536_S200x128_0_1152 inb_S12x128_S1x128_9_0 x
  · exact fun x => y_tile v acc sd _ 8 inb_S200x1536_S200x128_0_1024 inb_S12x128_S1x128_8_0 x
  · exact fun x => y_tile v acc sd _ 7 inb_S200x1536_S200x128_0_896 inb_S12x128_S1x128_7_0 x
  · exact fun x => y_tile v acc sd _ 6 inb_S200x1536_S200x128_0_768 inb_S12x128_S1x128_6_0 x
  · exact fun x => y_tile v acc sd _ 5 inb_S200x1536_S200x128_0_640 inb_S12x128_S1x128_5_0 x
  · exact fun x => y_tile v acc sd _ 4 inb_S200x1536_S200x128_0_512 inb_S12x128_S1x128_4_0 x
  · exact fun x => y_tile v acc sd _ 3 inb_S200x1536_S200x128_0_384 inb_S12x128_S1x128_3_0 x
  · exact fun x => y_tile v acc sd _ 2 inb_S200x1536_S200x128_0_256 inb_S12x128_S1x128_2_0 x
  · exact fun x => y_tile v acc sd _ 1 inb_S200x1536_S200x128_0_128 inb_S12x128_S1x128_1_0 x
  · exact fun x => y_tile v acc sd _ 0 inb_S200x1536_S200x128_0_0 inb_S12x128_S1x128_0_0 x

/-! ## The first point -/

/-- The block of hidden values the first point leaves. -/
theorem canonA_7 (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : cond0_0 i) (hc1 : ¬cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1 = hOf (i 0).val (xqOf x0) (sbOf x0) x1 x2 x3 := by
  unfold kernelRun0_A
  dsimp only
  sl_unfold_words
  have hz : (![0, 0] : Fin 2 → ℕ) = fun _ => 0 := by funext a; fin_cases a <;> rfl
  rw [View.canon_unit_zero hz]
  simp only [View.readAt_eq_ld, harg1.read_unread, harg2.read_unread, harg3.read_unread, harg4.read_unread, harg5.read_unread, harg6.read_unread, harg11.read_unread, harg12.read_unread, harg13.read_unread, View.ld_unit_zero (S := S200x1536) hz, View.ld_unit_zero (S := S1536x1280) hz, View.ld_unit_zero (S := S1280x1536) hz, View.ld_unit_zero (S := S224x1536) hz, View.ld_unit_zero (S := S200x128) hz, View.ld_unit_zero (S := S200x1280) hz, readCov_whole (S := S224x1536) _ hz, readCov_whole (S := S200x128) _ hz, readCov_whole (S := S200x1536) _ hz, View.canon_unit_zero (S := S200x128) hz, View.canon_unit_zero (S := S200x1536) hz]
  unfold hOf xqOf sbOf
  have r0 : ∀ v : Vec F S70x128 .f32, View.ld v (Rect.unit (s := S70x128) (k0_off1 i 0#32) S1x128.size (k0_off1_inb i 0)) = rowAt v ((i 0).val * 10 + 0) := fun v => ld_row v i 0 _
  have r1 : ∀ v : Vec F S70x128 .f32, View.ld v (Rect.unit (s := S70x128) (k0_off1 i 1#32) S1x128.size (k0_off1_inb i 1)) = rowAt v ((i 0).val * 10 + 1) := fun v => ld_row v i 1 _
  have r2 : ∀ v : Vec F S70x128 .f32, View.ld v (Rect.unit (s := S70x128) (k0_off1 i 2#32) S1x128.size (k0_off1_inb i 2)) = rowAt v ((i 0).val * 10 + 2) := fun v => ld_row v i 2 _
  have r3 : ∀ v : Vec F S70x128 .f32, View.ld v (Rect.unit (s := S70x128) (k0_off1 i 3#32) S1x128.size (k0_off1_inb i 3)) = rowAt v ((i 0).val * 10 + 3) := fun v => ld_row v i 3 _
  have r4 : ∀ v : Vec F S70x128 .f32, View.ld v (Rect.unit (s := S70x128) (k0_off1 i 4#32) S1x128.size (k0_off1_inb i 4)) = rowAt v ((i 0).val * 10 + 4) := fun v => ld_row v i 4 _
  have r5 : ∀ v : Vec F S70x128 .f32, View.ld v (Rect.unit (s := S70x128) (k0_off1 i 5#32) S1x128.size (k0_off1_inb i 5)) = rowAt v ((i 0).val * 10 + 5) := fun v => ld_row v i 5 _
  have r6 : ∀ v : Vec F S70x128 .f32, View.ld v (Rect.unit (s := S70x128) (k0_off1 i 6#32) S1x128.size (k0_off1_inb i 6)) = rowAt v ((i 0).val * 10 + 6) := fun v => ld_row v i 6 _
  have r7 : ∀ v : Vec F S70x128 .f32, View.ld v (Rect.unit (s := S70x128) (k0_off1 i 7#32) S1x128.size (k0_off1_inb i 7)) = rowAt v ((i 0).val * 10 + 7) := fun v => ld_row v i 7 _
  have r8 : ∀ v : Vec F S70x128 .f32, View.ld v (Rect.unit (s := S70x128) (k0_off1 i 8#32) S1x128.size (k0_off1_inb i 8)) = rowAt v ((i 0).val * 10 + 8) := fun v => ld_row v i 8 _
  have r9 : ∀ v : Vec F S70x128 .f32, View.ld v (Rect.unit (s := S70x128) (k0_off1 i 9#32) S1x128.size (k0_off1_inb i 9)) = rowAt v ((i 0).val * 10 + 9) := fun v => ld_row v i 9 _
  simp only [← r0, ← r1, ← r2, ← r3, ← r4, ← r5, ← r6, ← r7, ← r8, ← r9]
  rfl

/-- The codes the first point leaves. -/
theorem canonA_8 (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : cond0_0 i) (hc1 : ¬cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1 = codesOf x0 := by
  unfold kernelRun0_A
  dsimp only
  sl_unfold_words
  have hz : (![0, 0] : Fin 2 → ℕ) = fun _ => 0 := by funext a; fin_cases a <;> rfl
  rw [View.canon_unit_zero hz]
  simp only [View.readAt_eq_ld, harg1.read_unread, harg2.read_unread, harg3.read_unread, harg4.read_unread, harg5.read_unread, harg6.read_unread, harg11.read_unread, harg12.read_unread, harg13.read_unread, View.ld_unit_zero (S := S200x1536) hz, View.ld_unit_zero (S := S1536x1280) hz, View.ld_unit_zero (S := S1280x1536) hz, View.ld_unit_zero (S := S224x1536) hz, View.ld_unit_zero (S := S200x128) hz, View.ld_unit_zero (S := S200x1280) hz]
  rfl

/-- The scales the first point leaves. -/
theorem canonA_9 (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : cond0_0 i) (hc1 : ¬cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1 = scalesOf x0 := by
  unfold kernelRun0_A
  dsimp only
  sl_unfold_words
  have hz : (![0, 0] : Fin 2 → ℕ) = fun _ => 0 := by funext a; fin_cases a <;> rfl
  rw [View.canon_unit_zero hz]
  simp only [View.readAt_eq_ld, harg1.read_unread, harg2.read_unread, harg3.read_unread, harg4.read_unread, harg5.read_unread, harg6.read_unread, harg11.read_unread, harg12.read_unread, harg13.read_unread, View.ld_unit_zero (S := S200x1536) hz, View.ld_unit_zero (S := S1536x1280) hz, View.ld_unit_zero (S := S1280x1536) hz, View.ld_unit_zero (S := S224x1536) hz, View.ld_unit_zero (S := S200x128) hz, View.ld_unit_zero (S := S200x1280) hz]
  rfl

/-- The padded codes the first point leaves in its scratch. -/
theorem canonA_s0 (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : cond0_0 i) (hc1 : ¬cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1 = xqOf x0 := by
  unfold kernelRun0_A
  dsimp only
  sl_unfold_words
  have hz : (![0, 0] : Fin 2 → ℕ) = fun _ => 0 := by funext a; fin_cases a <;> rfl
  simp only [View.readAt_eq_ld, harg1.read_unread, harg2.read_unread, harg3.read_unread, harg4.read_unread, harg5.read_unread, harg6.read_unread, harg11.read_unread, harg12.read_unread, harg13.read_unread, View.ld_unit_zero (S := S200x1536) hz, View.ld_unit_zero (S := S1536x1280) hz, View.ld_unit_zero (S := S1280x1536) hz, View.ld_unit_zero (S := S224x1536) hz, View.ld_unit_zero (S := S200x128) hz, View.ld_unit_zero (S := S200x1280) hz]
  rfl

/-- The spread scales the first point leaves in its scratch. -/
theorem canonA_s1 (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : cond0_0 i) (hc1 : ¬cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.2.1 = sbOf x0 := by
  unfold kernelRun0_A
  dsimp only
  sl_unfold_words
  have hz : (![0, 0] : Fin 2 → ℕ) = fun _ => 0 := by funext a; fin_cases a <;> rfl
  rw [View.canon_unit_zero hz]
  simp only [View.readAt_eq_ld, harg1.read_unread, harg2.read_unread, harg3.read_unread, harg4.read_unread, harg5.read_unread, harg6.read_unread, harg11.read_unread, harg12.read_unread, harg13.read_unread, View.ld_unit_zero (S := S200x1536) hz, View.ld_unit_zero (S := S1536x1280) hz, View.ld_unit_zero (S := S1280x1536) hz, View.ld_unit_zero (S := S224x1536) hz, View.ld_unit_zero (S := S200x128) hz, View.ld_unit_zero (S := S200x1280) hz]
  rfl

/-- The accumulator the first point leaves. -/
theorem canonA_s2 (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : cond0_0 i) (hc1 : ¬cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.2.2.1 = accOf (hOf (i 0).val (xqOf x0) (sbOf x0) x1 x2 x3) k0_pay25 x4 := by
  unfold kernelRun0_A
  dsimp only
  sl_unfold_words
  have hz : (![0, 0] : Fin 2 → ℕ) = fun _ => 0 := by funext a; fin_cases a <;> rfl
  rw [View.canon_cons_unit_zero hz]
  simp only [View.readAt_eq_ld, harg1.read_unread, harg2.read_unread, harg3.read_unread, harg4.read_unread, harg5.read_unread, harg6.read_unread, harg11.read_unread, harg12.read_unread, harg13.read_unread, View.ld_unit_zero (S := S200x1536) hz, View.ld_unit_zero (S := S1536x1280) hz, View.ld_unit_zero (S := S1280x1536) hz, View.ld_unit_zero (S := S224x1536) hz, View.ld_unit_zero (S := S200x128) hz, View.ld_unit_zero (S := S200x1280) hz, readCov_whole (S := S224x1536) _ hz, readCov_whole (S := S200x128) _ hz, readCov_whole (S := S200x1536) _ hz, View.canon_unit_zero (S := S200x128) hz, View.canon_unit_zero (S := S200x1536) hz]
  unfold accOf hOf xqOf sbOf
  have r0 : ∀ v : Vec F S70x128 .f32, View.ld v (Rect.unit (s := S70x128) (k0_off1 i 0#32) S1x128.size (k0_off1_inb i 0)) = rowAt v ((i 0).val * 10 + 0) := fun v => ld_row v i 0 _
  have r1 : ∀ v : Vec F S70x128 .f32, View.ld v (Rect.unit (s := S70x128) (k0_off1 i 1#32) S1x128.size (k0_off1_inb i 1)) = rowAt v ((i 0).val * 10 + 1) := fun v => ld_row v i 1 _
  have r2 : ∀ v : Vec F S70x128 .f32, View.ld v (Rect.unit (s := S70x128) (k0_off1 i 2#32) S1x128.size (k0_off1_inb i 2)) = rowAt v ((i 0).val * 10 + 2) := fun v => ld_row v i 2 _
  have r3 : ∀ v : Vec F S70x128 .f32, View.ld v (Rect.unit (s := S70x128) (k0_off1 i 3#32) S1x128.size (k0_off1_inb i 3)) = rowAt v ((i 0).val * 10 + 3) := fun v => ld_row v i 3 _
  have r4 : ∀ v : Vec F S70x128 .f32, View.ld v (Rect.unit (s := S70x128) (k0_off1 i 4#32) S1x128.size (k0_off1_inb i 4)) = rowAt v ((i 0).val * 10 + 4) := fun v => ld_row v i 4 _
  have r5 : ∀ v : Vec F S70x128 .f32, View.ld v (Rect.unit (s := S70x128) (k0_off1 i 5#32) S1x128.size (k0_off1_inb i 5)) = rowAt v ((i 0).val * 10 + 5) := fun v => ld_row v i 5 _
  have r6 : ∀ v : Vec F S70x128 .f32, View.ld v (Rect.unit (s := S70x128) (k0_off1 i 6#32) S1x128.size (k0_off1_inb i 6)) = rowAt v ((i 0).val * 10 + 6) := fun v => ld_row v i 6 _
  have r7 : ∀ v : Vec F S70x128 .f32, View.ld v (Rect.unit (s := S70x128) (k0_off1 i 7#32) S1x128.size (k0_off1_inb i 7)) = rowAt v ((i 0).val * 10 + 7) := fun v => ld_row v i 7 _
  have r8 : ∀ v : Vec F S70x128 .f32, View.ld v (Rect.unit (s := S70x128) (k0_off1 i 8#32) S1x128.size (k0_off1_inb i 8)) = rowAt v ((i 0).val * 10 + 8) := fun v => ld_row v i 8 _
  have r9 : ∀ v : Vec F S70x128 .f32, View.ld v (Rect.unit (s := S70x128) (k0_off1 i 9#32) S1x128.size (k0_off1_inb i 9)) = rowAt v ((i 0).val * 10 + 9) := fun v => ld_row v i 9 _
  simp only [← r0, ← r1, ← r2, ← r3, ← r4, ← r5, ← r6, ← r7, ← r8, ← r9]
  rfl

/-! ## The middle points -/

/-- The block of hidden values a middle point leaves. -/
theorem canonB_7 (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : ¬cond0_0 i) (hc1 : ¬cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) (xs0 : Vec F S224x1536 .fp8e4m3) (xs1 : Vec F S200x128 .f32) (xs2 : Vec F S200x1536 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2).2.1 = hOf (i 0).val xs0 xs1 x1 x2 x3 := by
  unfold kernelRun0_B
  dsimp only
  sl_unfold_words
  have hz : (![0, 0] : Fin 2 → ℕ) = fun _ => 0 := by funext a; fin_cases a <;> rfl
  rw [View.canon_unit_zero hz]
  simp only [View.readAt_eq_ld, harg1.read_unread, harg2.read_unread, harg3.read_unread, harg4.read_unread, harg5.read_unread, harg6.read_unread, harg11.read_unread, harg12.read_unread, harg13.read_unread, View.ld_unit_zero (S := S200x1536) hz, View.ld_unit_zero (S := S1536x1280) hz, View.ld_unit_zero (S := S1280x1536) hz, View.ld_unit_zero (S := S224x1536) hz, View.ld_unit_zero (S := S200x128) hz, View.ld_unit_zero (S := S200x1280) hz]
  unfold hOf
  have r0 : ∀ v : Vec F S70x128 .f32, View.ld v (Rect.unit (s := S70x128) (k0_off1 i 0#32) S1x128.size (k0_off1_inb i 0)) = rowAt v ((i 0).val * 10 + 0) := fun v => ld_row v i 0 _
  have r1 : ∀ v : Vec F S70x128 .f32, View.ld v (Rect.unit (s := S70x128) (k0_off1 i 1#32) S1x128.size (k0_off1_inb i 1)) = rowAt v ((i 0).val * 10 + 1) := fun v => ld_row v i 1 _
  have r2 : ∀ v : Vec F S70x128 .f32, View.ld v (Rect.unit (s := S70x128) (k0_off1 i 2#32) S1x128.size (k0_off1_inb i 2)) = rowAt v ((i 0).val * 10 + 2) := fun v => ld_row v i 2 _
  have r3 : ∀ v : Vec F S70x128 .f32, View.ld v (Rect.unit (s := S70x128) (k0_off1 i 3#32) S1x128.size (k0_off1_inb i 3)) = rowAt v ((i 0).val * 10 + 3) := fun v => ld_row v i 3 _
  have r4 : ∀ v : Vec F S70x128 .f32, View.ld v (Rect.unit (s := S70x128) (k0_off1 i 4#32) S1x128.size (k0_off1_inb i 4)) = rowAt v ((i 0).val * 10 + 4) := fun v => ld_row v i 4 _
  have r5 : ∀ v : Vec F S70x128 .f32, View.ld v (Rect.unit (s := S70x128) (k0_off1 i 5#32) S1x128.size (k0_off1_inb i 5)) = rowAt v ((i 0).val * 10 + 5) := fun v => ld_row v i 5 _
  have r6 : ∀ v : Vec F S70x128 .f32, View.ld v (Rect.unit (s := S70x128) (k0_off1 i 6#32) S1x128.size (k0_off1_inb i 6)) = rowAt v ((i 0).val * 10 + 6) := fun v => ld_row v i 6 _
  have r7 : ∀ v : Vec F S70x128 .f32, View.ld v (Rect.unit (s := S70x128) (k0_off1 i 7#32) S1x128.size (k0_off1_inb i 7)) = rowAt v ((i 0).val * 10 + 7) := fun v => ld_row v i 7 _
  have r8 : ∀ v : Vec F S70x128 .f32, View.ld v (Rect.unit (s := S70x128) (k0_off1 i 8#32) S1x128.size (k0_off1_inb i 8)) = rowAt v ((i 0).val * 10 + 8) := fun v => ld_row v i 8 _
  have r9 : ∀ v : Vec F S70x128 .f32, View.ld v (Rect.unit (s := S70x128) (k0_off1 i 9#32) S1x128.size (k0_off1_inb i 9)) = rowAt v ((i 0).val * 10 + 9) := fun v => ld_row v i 9 _
  simp only [← r0, ← r1, ← r2, ← r3, ← r4, ← r5, ← r6, ← r7, ← r8, ← r9]
  rfl

/-- The accumulator a middle point leaves. -/
theorem canonB_s2 (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : ¬cond0_0 i) (hc1 : ¬cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) (xs0 : Vec F S224x1536 .fp8e4m3) (xs1 : Vec F S200x128 .f32) (xs2 : Vec F S200x1536 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2).2.2.2.2.2.2.1 = accOf (hOf (i 0).val xs0 xs1 x1 x2 x3) xs2 x4 := by
  unfold kernelRun0_B
  dsimp only
  sl_unfold_words
  have hz : (![0, 0] : Fin 2 → ℕ) = fun _ => 0 := by funext a; fin_cases a <;> rfl
  rw [View.canon_unit_zero hz]
  simp only [View.readAt_eq_ld, harg1.read_unread, harg2.read_unread, harg3.read_unread, harg4.read_unread, harg5.read_unread, harg6.read_unread, harg11.read_unread, harg12.read_unread, harg13.read_unread, View.ld_unit_zero (S := S200x1536) hz, View.ld_unit_zero (S := S1536x1280) hz, View.ld_unit_zero (S := S1280x1536) hz, View.ld_unit_zero (S := S224x1536) hz, View.ld_unit_zero (S := S200x128) hz, View.ld_unit_zero (S := S200x1280) hz]
  unfold accOf hOf
  have r0 : ∀ v : Vec F S70x128 .f32, View.ld v (Rect.unit (s := S70x128) (k0_off1 i 0#32) S1x128.size (k0_off1_inb i 0)) = rowAt v ((i 0).val * 10 + 0) := fun v => ld_row v i 0 _
  have r1 : ∀ v : Vec F S70x128 .f32, View.ld v (Rect.unit (s := S70x128) (k0_off1 i 1#32) S1x128.size (k0_off1_inb i 1)) = rowAt v ((i 0).val * 10 + 1) := fun v => ld_row v i 1 _
  have r2 : ∀ v : Vec F S70x128 .f32, View.ld v (Rect.unit (s := S70x128) (k0_off1 i 2#32) S1x128.size (k0_off1_inb i 2)) = rowAt v ((i 0).val * 10 + 2) := fun v => ld_row v i 2 _
  have r3 : ∀ v : Vec F S70x128 .f32, View.ld v (Rect.unit (s := S70x128) (k0_off1 i 3#32) S1x128.size (k0_off1_inb i 3)) = rowAt v ((i 0).val * 10 + 3) := fun v => ld_row v i 3 _
  have r4 : ∀ v : Vec F S70x128 .f32, View.ld v (Rect.unit (s := S70x128) (k0_off1 i 4#32) S1x128.size (k0_off1_inb i 4)) = rowAt v ((i 0).val * 10 + 4) := fun v => ld_row v i 4 _
  have r5 : ∀ v : Vec F S70x128 .f32, View.ld v (Rect.unit (s := S70x128) (k0_off1 i 5#32) S1x128.size (k0_off1_inb i 5)) = rowAt v ((i 0).val * 10 + 5) := fun v => ld_row v i 5 _
  have r6 : ∀ v : Vec F S70x128 .f32, View.ld v (Rect.unit (s := S70x128) (k0_off1 i 6#32) S1x128.size (k0_off1_inb i 6)) = rowAt v ((i 0).val * 10 + 6) := fun v => ld_row v i 6 _
  have r7 : ∀ v : Vec F S70x128 .f32, View.ld v (Rect.unit (s := S70x128) (k0_off1 i 7#32) S1x128.size (k0_off1_inb i 7)) = rowAt v ((i 0).val * 10 + 7) := fun v => ld_row v i 7 _
  have r8 : ∀ v : Vec F S70x128 .f32, View.ld v (Rect.unit (s := S70x128) (k0_off1 i 8#32) S1x128.size (k0_off1_inb i 8)) = rowAt v ((i 0).val * 10 + 8) := fun v => ld_row v i 8 _
  have r9 : ∀ v : Vec F S70x128 .f32, View.ld v (Rect.unit (s := S70x128) (k0_off1 i 9#32) S1x128.size (k0_off1_inb i 9)) = rowAt v ((i 0).val * 10 + 9) := fun v => ld_row v i 9 _
  simp only [← r0, ← r1, ← r2, ← r3, ← r4, ← r5, ← r6, ← r7, ← r8, ← r9]
  rfl

/-! ## The last point -/

/-- The block of hidden values the last point leaves. -/
theorem canonC_7 (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : ¬cond0_0 i) (hc1 : cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) (xs0 : Vec F S224x1536 .fp8e4m3) (xs1 : Vec F S200x128 .f32) (xs2 : Vec F S200x1536 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2).2.1 = hOf (i 0).val xs0 xs1 x1 x2 x3 := by
  unfold kernelRun0_C
  dsimp only
  sl_unfold_words
  have hz : (![0, 0] : Fin 2 → ℕ) = fun _ => 0 := by funext a; fin_cases a <;> rfl
  rw [View.canon_unit_zero hz]
  simp only [View.readAt_eq_ld, harg1.read_unread, harg2.read_unread, harg3.read_unread, harg4.read_unread, harg5.read_unread, harg6.read_unread, harg11.read_unread, harg12.read_unread, harg13.read_unread, View.ld_unit_zero (S := S200x1536) hz, View.ld_unit_zero (S := S1536x1280) hz, View.ld_unit_zero (S := S1280x1536) hz, View.ld_unit_zero (S := S224x1536) hz, View.ld_unit_zero (S := S200x128) hz, View.ld_unit_zero (S := S200x1280) hz]
  unfold hOf
  have r0 : ∀ v : Vec F S70x128 .f32, View.ld v (Rect.unit (s := S70x128) (k0_off1 i 0#32) S1x128.size (k0_off1_inb i 0)) = rowAt v ((i 0).val * 10 + 0) := fun v => ld_row v i 0 _
  have r1 : ∀ v : Vec F S70x128 .f32, View.ld v (Rect.unit (s := S70x128) (k0_off1 i 1#32) S1x128.size (k0_off1_inb i 1)) = rowAt v ((i 0).val * 10 + 1) := fun v => ld_row v i 1 _
  have r2 : ∀ v : Vec F S70x128 .f32, View.ld v (Rect.unit (s := S70x128) (k0_off1 i 2#32) S1x128.size (k0_off1_inb i 2)) = rowAt v ((i 0).val * 10 + 2) := fun v => ld_row v i 2 _
  have r3 : ∀ v : Vec F S70x128 .f32, View.ld v (Rect.unit (s := S70x128) (k0_off1 i 3#32) S1x128.size (k0_off1_inb i 3)) = rowAt v ((i 0).val * 10 + 3) := fun v => ld_row v i 3 _
  have r4 : ∀ v : Vec F S70x128 .f32, View.ld v (Rect.unit (s := S70x128) (k0_off1 i 4#32) S1x128.size (k0_off1_inb i 4)) = rowAt v ((i 0).val * 10 + 4) := fun v => ld_row v i 4 _
  have r5 : ∀ v : Vec F S70x128 .f32, View.ld v (Rect.unit (s := S70x128) (k0_off1 i 5#32) S1x128.size (k0_off1_inb i 5)) = rowAt v ((i 0).val * 10 + 5) := fun v => ld_row v i 5 _
  have r6 : ∀ v : Vec F S70x128 .f32, View.ld v (Rect.unit (s := S70x128) (k0_off1 i 6#32) S1x128.size (k0_off1_inb i 6)) = rowAt v ((i 0).val * 10 + 6) := fun v => ld_row v i 6 _
  have r7 : ∀ v : Vec F S70x128 .f32, View.ld v (Rect.unit (s := S70x128) (k0_off1 i 7#32) S1x128.size (k0_off1_inb i 7)) = rowAt v ((i 0).val * 10 + 7) := fun v => ld_row v i 7 _
  have r8 : ∀ v : Vec F S70x128 .f32, View.ld v (Rect.unit (s := S70x128) (k0_off1 i 8#32) S1x128.size (k0_off1_inb i 8)) = rowAt v ((i 0).val * 10 + 8) := fun v => ld_row v i 8 _
  have r9 : ∀ v : Vec F S70x128 .f32, View.ld v (Rect.unit (s := S70x128) (k0_off1 i 9#32) S1x128.size (k0_off1_inb i 9)) = rowAt v ((i 0).val * 10 + 9) := fun v => ld_row v i 9 _
  simp only [← r0, ← r1, ← r2, ← r3, ← r4, ← r5, ← r6, ← r7, ← r8, ← r9]
  rfl

/-- The accumulator the last point leaves. -/
theorem canonC_s2 (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : ¬cond0_0 i) (hc1 : cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) (xs0 : Vec F S224x1536 .fp8e4m3) (xs1 : Vec F S200x128 .f32) (xs2 : Vec F S200x1536 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2).2.2.2.2.2.2.1 = accOf (hOf (i 0).val xs0 xs1 x1 x2 x3) xs2 x4 := by
  unfold kernelRun0_C
  dsimp only
  sl_unfold_words
  have hz : (![0, 0] : Fin 2 → ℕ) = fun _ => 0 := by funext a; fin_cases a <;> rfl
  rw [View.canon_unit_zero hz]
  simp only [View.readAt_eq_ld, harg1.read_unread, harg2.read_unread, harg3.read_unread, harg4.read_unread, harg5.read_unread, harg6.read_unread, harg11.read_unread, harg12.read_unread, harg13.read_unread, View.ld_unit_zero (S := S200x1536) hz, View.ld_unit_zero (S := S1536x1280) hz, View.ld_unit_zero (S := S1280x1536) hz, View.ld_unit_zero (S := S224x1536) hz, View.ld_unit_zero (S := S200x128) hz, View.ld_unit_zero (S := S200x1280) hz]
  unfold accOf hOf
  have r0 : ∀ v : Vec F S70x128 .f32, View.ld v (Rect.unit (s := S70x128) (k0_off1 i 0#32) S1x128.size (k0_off1_inb i 0)) = rowAt v ((i 0).val * 10 + 0) := fun v => ld_row v i 0 _
  have r1 : ∀ v : Vec F S70x128 .f32, View.ld v (Rect.unit (s := S70x128) (k0_off1 i 1#32) S1x128.size (k0_off1_inb i 1)) = rowAt v ((i 0).val * 10 + 1) := fun v => ld_row v i 1 _
  have r2 : ∀ v : Vec F S70x128 .f32, View.ld v (Rect.unit (s := S70x128) (k0_off1 i 2#32) S1x128.size (k0_off1_inb i 2)) = rowAt v ((i 0).val * 10 + 2) := fun v => ld_row v i 2 _
  have r3 : ∀ v : Vec F S70x128 .f32, View.ld v (Rect.unit (s := S70x128) (k0_off1 i 3#32) S1x128.size (k0_off1_inb i 3)) = rowAt v ((i 0).val * 10 + 3) := fun v => ld_row v i 3 _
  have r4 : ∀ v : Vec F S70x128 .f32, View.ld v (Rect.unit (s := S70x128) (k0_off1 i 4#32) S1x128.size (k0_off1_inb i 4)) = rowAt v ((i 0).val * 10 + 4) := fun v => ld_row v i 4 _
  have r5 : ∀ v : Vec F S70x128 .f32, View.ld v (Rect.unit (s := S70x128) (k0_off1 i 5#32) S1x128.size (k0_off1_inb i 5)) = rowAt v ((i 0).val * 10 + 5) := fun v => ld_row v i 5 _
  have r6 : ∀ v : Vec F S70x128 .f32, View.ld v (Rect.unit (s := S70x128) (k0_off1 i 6#32) S1x128.size (k0_off1_inb i 6)) = rowAt v ((i 0).val * 10 + 6) := fun v => ld_row v i 6 _
  have r7 : ∀ v : Vec F S70x128 .f32, View.ld v (Rect.unit (s := S70x128) (k0_off1 i 7#32) S1x128.size (k0_off1_inb i 7)) = rowAt v ((i 0).val * 10 + 7) := fun v => ld_row v i 7 _
  have r8 : ∀ v : Vec F S70x128 .f32, View.ld v (Rect.unit (s := S70x128) (k0_off1 i 8#32) S1x128.size (k0_off1_inb i 8)) = rowAt v ((i 0).val * 10 + 8) := fun v => ld_row v i 8 _
  have r9 : ∀ v : Vec F S70x128 .f32, View.ld v (Rect.unit (s := S70x128) (k0_off1 i 9#32) S1x128.size (k0_off1_inb i 9)) = rowAt v ((i 0).val * 10 + 9) := fun v => ld_row v i 9 _
  simp only [← r0, ← r1, ← r2, ← r3, ← r4, ← r5, ← r6, ← r7, ← r8, ← r9]
  rfl

/-- The result `y` the last point leaves. -/
theorem canonC_6 (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : ¬cond0_0 i) (hc1 : cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) (xs0 : Vec F S224x1536 .fp8e4m3) (xs1 : Vec F S200x128 .f32) (xs2 : Vec F S200x1536 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2).1 = yOf (accOf (hOf (i 0).val xs0 xs1 x1 x2 x3) xs2 x4) x5 := by
  unfold kernelRun0_C
  dsimp only
  sl_unfold_words
  have hz : (![0, 0] : Fin 2 → ℕ) = fun _ => 0 := by funext a; fin_cases a <;> rfl
  simp only [View.readAt_eq_ld, harg1.read_unread, harg2.read_unread, harg3.read_unread, harg4.read_unread, harg5.read_unread, harg6.read_unread, harg11.read_unread, harg12.read_unread, harg13.read_unread, View.ld_unit_zero (S := S200x1536) hz, View.ld_unit_zero (S := S1536x1280) hz, View.ld_unit_zero (S := S1280x1536) hz, View.ld_unit_zero (S := S224x1536) hz, View.ld_unit_zero (S := S200x128) hz, View.ld_unit_zero (S := S200x1280) hz]
  unfold accOf hOf
  have r0 : ∀ v : Vec F S70x128 .f32, View.ld v (Rect.unit (s := S70x128) (k0_off1 i 0#32) S1x128.size (k0_off1_inb i 0)) = rowAt v ((i 0).val * 10 + 0) := fun v => ld_row v i 0 _
  have r1 : ∀ v : Vec F S70x128 .f32, View.ld v (Rect.unit (s := S70x128) (k0_off1 i 1#32) S1x128.size (k0_off1_inb i 1)) = rowAt v ((i 0).val * 10 + 1) := fun v => ld_row v i 1 _
  have r2 : ∀ v : Vec F S70x128 .f32, View.ld v (Rect.unit (s := S70x128) (k0_off1 i 2#32) S1x128.size (k0_off1_inb i 2)) = rowAt v ((i 0).val * 10 + 2) := fun v => ld_row v i 2 _
  have r3 : ∀ v : Vec F S70x128 .f32, View.ld v (Rect.unit (s := S70x128) (k0_off1 i 3#32) S1x128.size (k0_off1_inb i 3)) = rowAt v ((i 0).val * 10 + 3) := fun v => ld_row v i 3 _
  have r4 : ∀ v : Vec F S70x128 .f32, View.ld v (Rect.unit (s := S70x128) (k0_off1 i 4#32) S1x128.size (k0_off1_inb i 4)) = rowAt v ((i 0).val * 10 + 4) := fun v => ld_row v i 4 _
  have r5 : ∀ v : Vec F S70x128 .f32, View.ld v (Rect.unit (s := S70x128) (k0_off1 i 5#32) S1x128.size (k0_off1_inb i 5)) = rowAt v ((i 0).val * 10 + 5) := fun v => ld_row v i 5 _
  have r6 : ∀ v : Vec F S70x128 .f32, View.ld v (Rect.unit (s := S70x128) (k0_off1 i 6#32) S1x128.size (k0_off1_inb i 6)) = rowAt v ((i 0).val * 10 + 6) := fun v => ld_row v i 6 _
  have r7 : ∀ v : Vec F S70x128 .f32, View.ld v (Rect.unit (s := S70x128) (k0_off1 i 7#32) S1x128.size (k0_off1_inb i 7)) = rowAt v ((i 0).val * 10 + 7) := fun v => ld_row v i 7 _
  have r8 : ∀ v : Vec F S70x128 .f32, View.ld v (Rect.unit (s := S70x128) (k0_off1 i 8#32) S1x128.size (k0_off1_inb i 8)) = rowAt v ((i 0).val * 10 + 8) := fun v => ld_row v i 8 _
  have r9 : ∀ v : Vec F S70x128 .f32, View.ld v (Rect.unit (s := S70x128) (k0_off1 i 9#32) S1x128.size (k0_off1_inb i 9)) = rowAt v ((i 0).val * 10 + 9) := fun v => ld_row v i 9 _
  simp only [← r0, ← r1, ← r2, ← r3, ← r4, ← r5, ← r6, ← r7, ← r8, ← r9]
  exact y_canon arg13.view _ x5 _ rfl

end Cert.Kernel.Run

end
-- ==== Proof.KRun.Frame.lean ====
/- The kernel's proof data at every grid point, its run, and its frame: every run ends, with the arguments unchanged and every semaphore counter at zero. -/
module

public import proofs.«01_k».proof.Proof.KRun.Steps
public import Idealize.ShloMosaic.Lib.Claim
public import Idealize.ShloMosaic.Lib.Pipeline.TableIdle

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- Grid point `n`. -/
def pt (n : ℕ) : Fin cfg0.N := ⟨n % 7, lt_of_lt_of_eq (Nat.mod_lt _ (by decide)) N_0.symm⟩

theorem pt_val (t : Fin cfg0.N) : pt t.val = t :=
  Fin.ext (Nat.mod_eq_of_lt (lt_of_lt_of_eq t.isLt N_0))

/-- The activation block. -/
def xB (c : Dev nD) : Vec F S200x1536 .bf16 := iblk m c 0 (pt 0)

/-- The block of hidden values of point `t`. -/
def hAt (c : Dev nD) (t : Fin cfg0.N) : Vec F S200x1280 .bf16 :=
  hOf (grid0.coords t 0).val (xqOf (xB m c)) (sbOf (xB m c)) (iblk m c 1 t) (iblk m c 2 t) (iblk m c 3 t)

/-- The down-projection's accumulator after point `n`. -/
def accAt (c : Dev nD) : ℕ → Vec F S200x1536 .f32
  | 0 => accOf (hAt m c (pt 0)) k0_pay25 (iblk m c 4 (pt 0))
  | n + 1 => accOf (hAt m c (pt (n + 1))) (accAt c n) (iblk m c 4 (pt (n + 1)))

theorem accAt_zero (c : Dev nD) (t : Fin cfg0.N) (h : t.val = 0) :
    accAt m c t.val = accOf (hAt m c t) k0_pay25 (iblk m c 4 t) := by
  have e : pt 0 = t := by rw [← h]; exact pt_val t
  rw [h]; unfold accAt; rw [e]

theorem accAt_pos (c : Dev nD) (t : Fin cfg0.N) (h : t.val ≠ 0) :
    accAt m c t.val = accOf (hAt m c t) (accAt m c (t.val - 1)) (iblk m c 4 t) := by
  obtain ⟨n, hn⟩ : ∃ n, t.val = n + 1 := ⟨t.val - 1, by omega⟩
  have e : pt (n + 1) = t := by rw [← hn]; exact pt_val t
  rw [hn]; show accOf _ (accAt m c n) _ = _; rw [e]; rfl

/-- The scratch before point `n`: at anything before the first, then the padded codes, the spread scales and the accumulator. -/
def PhiS (c : Dev nD) : ℕ → sProp 𝕄
  | 0 => Pipeline.ΦA spec0 c
  | n + 1 => iprop(iprop(owns (c : Thread nD τ) scM0_0 fullShare (xqOf (xB m c)) ∗ owns (c : Thread nD τ) scM0_1 fullShare (sbOf (xB m c)) ∗ owns (c : Thread nD τ) scM0_2 fullShare (accAt m c n)) ∗ (∃ r, prngReg c r))

theorem PhiS_zero (c : Dev nD) (n : ℕ) (hz : n = 0) : PhiS m c n = Pipeline.ΦA spec0 c := by
  subst hz; rfl

theorem PhiS_succ (c : Dev nD) (n : ℕ) :
    PhiS m c (n + 1) = iprop(iprop(owns (c : Thread nD τ) scM0_0 fullShare (xqOf (xB m c)) ∗ owns (c : Thread nD τ) scM0_1 fullShare (sbOf (xB m c)) ∗ owns (c : Thread nD τ) scM0_2 fullShare (accAt m c n)) ∗ (∃ r, prngReg c r)) := rfl

theorem PhiS_pos (c : Dev nD) (n : ℕ) (hz : n ≠ 0) :
    PhiS m c n = iprop(iprop(owns (c : Thread nD τ) scM0_0 fullShare (xqOf (xB m c)) ∗ owns (c : Thread nD τ) scM0_1 fullShare (sbOf (xB m c)) ∗ owns (c : Thread nD τ) scM0_2 fullShare (accAt m c (n - 1))) ∗ (∃ r, prngReg c r)) := by
  cases n with
  | zero => exact absurd rfl hz
  | succ n => rfl

/-! ## The pipeline's proof data -/

/-- What each window's buffer holds after the body at point `t`: an input its block; `y` the accumulator scaled; the
    hidden block; the codes and the scales of the activation block, the same at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yOf (accAt m c t.val) (iblk m c 5 t)
    | ⟨7, _⟩ => hAt m c t
    | ⟨8, _⟩ => codesOf (xB m c)
    | ⟨9, _⟩ => scalesOf (xB m c)
  Φ t := PhiS m c t.val
  q _ := fullShare
  owed _ := 0

/-- The arrays of the proof data are those the pipeline's region finds. -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = yOf (accAt m c t.val) (iblk m c 5 t) := by dsimp only [dats]
theorem after0_7 (c : Dev nD) (t : Fin cfg0.N) : (dats m 0 c).after 7 t = hAt m c t := by dsimp only [dats]
theorem after0_8 (c : Dev nD) (t : Fin cfg0.N) : (dats m 0 c).after 8 t = codesOf (xB m c) := by dsimp only [dats]
theorem after0_9 (c : Dev nD) (t : Fin cfg0.N) : (dats m 0 c).after 9 t = scalesOf (xB m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Window 8, stored at the first point only, still holds at every later point what that point stored. -/
theorem before0_8 (c : Dev nD) (t : Fin cfg0.N) (ht : t.val ≠ 0) (d) : (dats m 0 c).before 8 t d = codesOf (xB m c) := by
  have hfresh : ∀ t : Fin cfg0.N, t.val ≠ 0 → cfg0.fresh 8 t.val = false := by decide +kernel
  rw [(dats m 0 c).before_out_traj 8 rfl (fun _ _ => rfl) (fun t _ _ _ => by rw [after0_8, after0_8]) t.val t rfl d, hfresh t ht,
    if_neg Bool.false_ne_true, after0_8]

/-- Window 9, stored at the first point only, still holds at every later point what that point stored. -/
theorem before0_9 (c : Dev nD) (t : Fin cfg0.N) (ht : t.val ≠ 0) (d) : (dats m 0 c).before 9 t d = scalesOf (xB m c) := by
  have hfresh : ∀ t : Fin cfg0.N, t.val ≠ 0 → cfg0.fresh 9 t.val = false := by decide +kernel
  rw [(dats m 0 c).before_out_traj 9 rfl (fun _ _ => rfl) (fun t _ _ _ => by rw [after0_9, after0_9]) t.val t rfl d, hfresh t ht,
    if_neg Bool.false_ne_true, after0_9]

/-! ## The body at every point -/

/-- What the body is given at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at the first point. -/
theorem sound_A (c : Dev nD) (t : Fin cfg0.N) (h0 : t.val % 7 = 0) (h1 : ¬ t.val % 7 = 6) :
    bodyPre m c t ⊢ wp frame (wpE (defs₀ (F := F)) Variants.none c none) Set.univ (bodyAt0 t) (fun _ => bodyPost m c t) := by
  have hN : t.val < 7 := lt_of_lt_of_eq t.isLt N_0
  have hz : t.val = 0 := by omega
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8_A t ((hcond0_0 t).mpr h0)], after0_8]
  rw [show (dats m 0 c).leavesExact 9 t = owns (c : Thread nD τ) (ms0_9 t) fullShare ((dats m 0 c).after 9 t) from by
    unfold Dat.leavesExact; rw [liveAt0_9_A t ((hcond0_0 t).mpr h0)], after0_9]
  rw [PhiS_castSucc m c t, PhiS_zero m c _ hz, PhiA0_eq]
  have hx : iblk m c 0 t = xB m c := by rw [xB, show pt 0 = t by rw [← hz]; exact pt_val t]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  iintro ⟨H0, H1, H2, H3, H4, H5, H6, ⟨%e7, H7⟩, ⟨%e8, H8⟩, ⟨%e9, H9⟩, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact (View.read_writes_eq_canon _ _ _ (View.cover_of_wholeMem (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).2.2.2.2.1 (by sl_whole_mem))).trans ((canonA_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).trans (by rw [hx]))
      isplitl [HS1]
      · unfold owns; iexists _; isplitr
        swap; · iexact HS1
        ipureintro; exact (View.read_writes_eq_canon _ _ _ (View.cover_of_tiledL (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).2.2.2.2.2.1 S200x128.size (by sl_kernel_rfl))).trans ((canonA_s1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).trans (by rw [hx]))
      unfold owns; iexists _; isplitr
      swap; · iexact HS2
      ipureintro; exact (View.read_writes_eq_canon _ _ _ (View.cover_of_wholeMem (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).2.2.2.2.2.2.1 (by sl_whole_mem))).trans ((canonA_s2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).trans (by rw [accAt_zero m c t hz, hx]; rfl))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]
  · unfold owns; iexists _; isplitr
    swap; · iexact H7
    ipureintro; exact (View.read_writes_eq_canon _ _ _ (View.cover_of_tiledL (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).2.1 S200x1280.size (by sl_kernel_rfl))).trans ((canonA_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).trans (by rw [hx]; rfl))
  isplitl [H8]
  · unfold owns; iexists _; isplitr
    swap; · iexact H8
    ipureintro; exact (View.read_writes_eq_canon _ _ _ (View.cover_of_tiledL (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).2.2.1 S200x1536.size (by sl_kernel_rfl))).trans ((canonA_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).trans (by rw [hx]))
  unfold owns; iexists _; isplitr
  swap; · iexact H9
  ipureintro; exact (View.read_writes_eq_canon _ _ _ (View.cover_of_tiledL (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).2.2.2.1 S1x200.size (by sl_kernel_rfl))).trans ((canonA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).trans (by rw [hx]))

set_option maxHeartbeats 4000000 in
/-- The body at a middle point. -/
theorem sound_B (c : Dev nD) (t : Fin cfg0.N) (h0 : ¬ t.val % 7 = 0) (h1 : ¬ t.val % 7 = 6) :
    bodyPre m c t ⊢ wp frame (wpE (defs₀ (F := F)) Variants.none c none) Set.univ (bodyAt0 t) (fun _ => bodyPost m c t) := by
  have hN : t.val < 7 := lt_of_lt_of_eq t.isLt N_0
  have hz : t.val ≠ 0 := by omega
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
  rw [show (dats m 0 c).leavesExact 7 t = owns (c : Thread nD τ) (ms0_7 t) fullShare ((dats m 0 c).after 7 t) from by
    unfold Dat.leavesExact; rw [liveAt0_7 t], after0_7]
  rw [Dat.leavesExact_idle (dats m 0 c) 8 t (idleAt0_8 t (fun h => h0 ((hcond0_0 t).mp h))) (noFlush0_8 t (fun h => h1 ((hcond0_1 t).mp h)))]
  rw [Dat.leavesExact_idle (dats m 0 c) 9 t (idleAt0_9 t (fun h => h0 ((hcond0_0 t).mp h))) (noFlush0_9 t (fun h => h1 ((hcond0_1 t).mp h)))]
  rw [PhiS_castSucc m c t, PhiS_pos m c _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (xqOf (xB m c)) (sbOf (xB m c)) (accAt m c (t.val - 1))).2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, ⟨%e7, H7⟩, H8, H9, HS0, HS1, ⟨%es2, HS2⟩⟩
  isplitl [HS0 HS1 HS2 Hg]
  · isplitl [HS0 HS1 HS2]
    · isplitl [HS0]; · iexact HS0
      isplitl [HS1]; · iexact HS1
      unfold owns; iexists _; isplitr
      swap; · iexact HS2
      ipureintro; exact (View.read_writes_eq_canon _ _ _ (View.cover_of_tiledL (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (xqOf (xB m c)) (sbOf (xB m c)) (accAt m c (t.val - 1))).2.2.2.2.2.2.1 S200x1536.size (by sl_kernel_rfl))).trans ((canonB_s2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (xqOf (xB m c)) (sbOf (xB m c)) (accAt m c (t.val - 1))).trans (by rw [accAt_pos m c t hz]; rfl))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]
  · unfold owns; iexists _; isplitr
    swap; · iexact H7
    ipureintro; exact (View.read_writes_eq_canon _ _ _ (View.cover_of_tiledL (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (xqOf (xB m c)) (sbOf (xB m c)) (accAt m c (t.val - 1))).2.1 S200x1280.size (by sl_kernel_rfl))).trans ((canonB_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (xqOf (xB m c)) (sbOf (xB m c)) (accAt m c (t.val - 1))).trans rfl)
  isplitl [H8]; · iexists _; iexact H8
  iexists _; iexact H9

set_option maxHeartbeats 4000000 in
/-- The body at the last point. -/
theorem sound_C (c : Dev nD) (t : Fin cfg0.N) (h0 : ¬ t.val % 7 = 0) (h1 : t.val % 7 = 6) :
    bodyPre m c t ⊢ wp frame (wpE (defs₀ (F := F)) Variants.none c none) Set.univ (bodyAt0 t) (fun _ => bodyPost m c t) := by
  have hN : t.val < 7 := lt_of_lt_of_eq t.isLt N_0
  have hz : t.val ≠ 0 := by omega
  unfold bodyPre bodyPost bodyAt0
  simp only [before0_0, before0_1, before0_2, before0_3, before0_4, before0_5]
  simp only [before0_8 m c t hz, before0_9 m c t hz]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6_C t (fun h => h0 ((hcond0_0 t).mp h)) ((hcond0_1 t).mpr h1)], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [idleAt0_8 t (fun h => h0 ((hcond0_0 t).mp h)), flush0_8_C t ((hcond0_1 t).mpr h1)], after0_8]
  rw [show (dats m 0 c).leavesExact 9 t = owns (c : Thread nD τ) (ms0_9 t) fullShare ((dats m 0 c).after 9 t) from by
    unfold Dat.leavesExact; rw [idleAt0_9 t (fun h => h0 ((hcond0_0 t).mp h)), flush0_9_C t ((hcond0_1 t).mpr h1)], after0_9]
  rw [PhiS_castSucc m c t, PhiS_pos m c _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (fun h => h0 ((hcond0_0 t).mp h)) ((hcond0_1 t).mpr h1) (iblk m c 0 t) (iblk m c 1 t) (iblk m c 2 t) (iblk m c 3 t) (iblk m c 4 t) (iblk m c 5 t) (xqOf (xB m c)) (sbOf (xB m c)) (accAt m c (t.val - 1))).2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexact H9
  isplitl [HS0]; · iexact HS0
  isplitl [HS1]; · iexact HS1
  isplitl [HS2]; · iexact HS2
  iintro ⟨H0, H1, H2, H3, H4, H5, ⟨%e6, H6⟩, ⟨%e7, H7⟩, H8, H9, HS0, HS1, ⟨%es2, HS2⟩⟩
  isplitl [HS0 HS1 HS2 Hg]
  · isplitl [HS0 HS1 HS2]
    · isplitl [HS0]; · iexact HS0
      isplitl [HS1]; · iexact HS1
      unfold owns; iexists _; isplitr
      swap; · iexact HS2
      ipureintro; exact (View.read_writes_eq_canon _ _ _ (View.cover_of_tiledL (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (fun h => h0 ((hcond0_0 t).mp h)) ((hcond0_1 t).mpr h1) (iblk m c 0 t) (iblk m c 1 t) (iblk m c 2 t) (iblk m c 3 t) (iblk m c 4 t) (iblk m c 5 t) (xqOf (xB m c)) (sbOf (xB m c)) (accAt m c (t.val - 1))).2.2.2.2.2.2.1 S200x1536.size (by sl_kernel_rfl))).trans ((canonC_s2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (fun h => h0 ((hcond0_0 t).mp h)) ((hcond0_1 t).mpr h1) (iblk m c 0 t) (iblk m c 1 t) (iblk m c 2 t) (iblk m c 3 t) (iblk m c 4 t) (iblk m c 5 t) (xqOf (xB m c)) (sbOf (xB m c)) (accAt m c (t.val - 1))).trans (by rw [accAt_pos m c t hz]; rfl))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact (View.read_writes_eq_canon _ _ _ (View.cover_of_tiledL (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (fun h => h0 ((hcond0_0 t).mp h)) ((hcond0_1 t).mpr h1) (iblk m c 0 t) (iblk m c 1 t) (iblk m c 2 t) (iblk m c 3 t) (iblk m c 4 t) (iblk m c 5 t) (xqOf (xB m c)) (sbOf (xB m c)) (accAt m c (t.val - 1))).1 S200x128.size (by sl_kernel_rfl))).trans ((canonC_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (fun h => h0 ((hcond0_0 t).mp h)) ((hcond0_1 t).mpr h1) (iblk m c 0 t) (iblk m c 1 t) (iblk m c 2 t) (iblk m c 3 t) (iblk m c 4 t) (iblk m c 5 t) (xqOf (xB m c)) (sbOf (xB m c)) (accAt m c (t.val - 1))).trans (by rw [accAt_pos m c t hz]; rfl))
  isplitl [H7]
  · unfold owns; iexists _; isplitr
    swap; · iexact H7
    ipureintro; exact (View.read_writes_eq_canon _ _ _ (View.cover_of_tiledL (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (fun h => h0 ((hcond0_0 t).mp h)) ((hcond0_1 t).mpr h1) (iblk m c 0 t) (iblk m c 1 t) (iblk m c 2 t) (iblk m c 3 t) (iblk m c 4 t) (iblk m c 5 t) (xqOf (xB m c)) (sbOf (xB m c)) (accAt m c (t.val - 1))).2.1 S200x1280.size (by sl_kernel_rfl))).trans ((canonC_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (fun h => h0 ((hcond0_0 t).mp h)) ((hcond0_1 t).mpr h1) (iblk m c 0 t) (iblk m c 1 t) (iblk m c 2 t) (iblk m c 3 t) (iblk m c 4 t) (iblk m c 5 t) (xqOf (xB m c)) (sbOf (xB m c)) (accAt m c (t.val - 1))).trans rfl)
  isplitl [H8]; · iexact H8
  iexact H9

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 7 := lt_of_lt_of_eq t.isLt N_0
  by_cases h0 : t.val % 7 = 0
  · exact sound_A m c t h0 (by omega)
  · by_cases h1 : t.val % 7 = 6
    · exact sound_C m c t h0 h1
    · exact sound_B m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 7 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Run

end
-- ==== Proof.Run.Kit.lean ====
/- The kernel's branch conditions over the grid, where its windows are idle and written back, and the memrefs its body is run on. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 7 = 0 :=
  (fun t => by
    have ht : t.val < 7 := Nat.lt_of_lt_of_eq t.isLt N_0
    have e0 : (grid0.coords t 0).val = t.val / 1 % 7 := Pipeline.Grid.coords_val t 0 (by decide) rfl
    simp only [cond0_0, e0]
    word_cmp
   : ∀ t : Fin grid0.N, cond0_0 (grid0.coords t) ↔ t.val % 7 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 7 = 6 :=
  (fun t => by
    have ht : t.val < 7 := Nat.lt_of_lt_of_eq t.isLt N_0
    have e0 : (grid0.coords t 0).val = t.val / 1 % 7 := Pipeline.Grid.coords_val t 0 (by decide) rfl
    simp only [cond0_1, k0_cond2, e0]
    word_cmp
   : ∀ t : Fin grid0.N, cond0_1 (grid0.coords t) ↔ t.val % 7 = 6)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 7 is never idle (an output stored at every point, under no condition). -/
theorem liveAt0_7 : ∀ t : Fin cfg0.N, cfg0.idle 7 (grid0.coords t) = false := fun _ => rfl
/-- Window 8 is live at the first point. -/
theorem liveAt0_8_A : ∀ t : Fin cfg0.N, cond0_0 (grid0.coords t) → cfg0.idle 8 (grid0.coords t) = false := by decide +kernel
/-- Window 9 is live at the first point. -/
theorem liveAt0_9_A : ∀ t : Fin cfg0.N, cond0_0 (grid0.coords t) → cfg0.idle 9 (grid0.coords t) = false := by decide +kernel
/-- Window 8 is idle at every later point. -/
theorem idleAt0_8 : ∀ t : Fin cfg0.N, ¬cond0_0 (grid0.coords t) → cfg0.idle 8 (grid0.coords t) = true := by decide +kernel
/-- Window 9 is idle at every later point. -/
theorem idleAt0_9 : ∀ t : Fin cfg0.N, ¬cond0_0 (grid0.coords t) → cfg0.idle 9 (grid0.coords t) = true := by decide +kernel
/-- Window 8 is not written back before the last point. -/
theorem noFlush0_8 : ∀ t : Fin cfg0.N, ¬cond0_1 (grid0.coords t) → (cfg0.win 8).flush t = false := by decide +kernel
/-- Window 9 is not written back before the last point. -/
theorem noFlush0_9 : ∀ t : Fin cfg0.N, ¬cond0_1 (grid0.coords t) → (cfg0.win 9).flush t = false := by decide +kernel
/-- Window 8 is written back at the last point. -/
theorem flush0_8_C : ∀ t : Fin cfg0.N, cond0_1 (grid0.coords t) → (cfg0.win 8).flush t = true := by decide +kernel
/-- Window 9 is written back at the last point. -/
theorem flush0_9_C : ∀ t : Fin cfg0.N, cond0_1 (grid0.coords t) → (cfg0.win 9).flush t = true := by decide +kernel
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel

/-! ## The kernel body on any staging memrefs: a subtype the run finds -/

/-- One staging buffer of output window 6, through which its contents are stated (`View.read_writes_of_cover`: the
    choice does not matter). -/
abbrev VO0_6 : View sig .tc .vmem S200x1536 .bf16 := (Memref.whole cc0_stg6_0 : Memref sig .tc .vmem S200x1536 .bf16).view
/-- One staging buffer of output window 7, through which its contents are stated (`View.read_writes_of_cover`: the
    choice does not matter). -/
abbrev VO0_7 : View sig .tc .vmem S200x1280 .bf16 := (Memref.whole cc0_stg7_0 : Memref sig .tc .vmem S200x1280 .bf16).view
/-- One staging buffer of output window 8, through which its contents are stated (`View.read_writes_of_cover`: the
    choice does not matter). -/
abbrev VO0_8 : View sig .tc .vmem S200x1536 .fp8e4m3 := (Memref.whole cc0_stg8_0 : Memref sig .tc .vmem S200x1536 .fp8e4m3).view
/-- One staging buffer of output window 9, through which its contents are stated (`View.read_writes_of_cover`: the
    choice does not matter). -/
abbrev VO0_9 : View sig .tc .vmem S1x200 .f32 := (Memref.whole cc0_stg9_0 : Memref sig .tc .vmem S1x200 .f32).view
/-- Each window's current staging memref at point `t`, spelled as the pipeline passes it (`bodyAt0`), and its wholeness. -/
abbrev ms0_0 (t : Fin cfg0.N) : Memref sig .tc .vmem S200x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1536x1280 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S70x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S70x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1280x1536 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S12x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S200x1536 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S200x1280 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S200x1536 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x200 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S224x1536 .fp8e4m3 := Memref.whole cc0_scratch0
abbrev scM0_1 : Memref sig .tc .vmem S200x128 .f32 := Memref.whole cc0_scratch1
abbrev scM0_2 : Memref sig .tc .vmem S200x1536 .f32 := Memref.whole cc0_scratch2
/-- The scratch `arg11` the kernel carries between points, as a view: what it holds is stated through it. -/
abbrev VS0_0 : View sig .tc .vmem S224x1536 .fp8e4m3 := scM0_0.view
/-- The scratch `arg12` the kernel carries between points, as a view: what it holds is stated through it. -/
abbrev VS0_1 : View sig .tc .vmem S200x128 .f32 := scM0_1.view
/-- The scratch `arg13` the kernel carries between points, as a view: what it holds is stated through it. -/
abbrev VS0_2 : View sig .tc .vmem S200x1536 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Run

end
-- ==== Proof.Run.RunA.lean ====
/- The body's run in case A. -/
module

public import proofs.«01_k».proof.Proof.Run.Kit

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The pieces case A of the body leaves in each buffer it stores into (outputs 6 to 9, then the three scratch
    buffers), with the triple of the run that leaves them; a buffer the case leaves alone keeps its contents. -/
noncomputable def kernelRun0_A (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : cond0_0 i) (hc1 : ¬cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) :
    Σ' (L6 : List (View.Piece (Elt F) S200x1536 .bf16)), Σ' (L7 : List (View.Piece (Elt F) S200x1280 .bf16)), Σ' (L8 : List (View.Piece (Elt F) S200x1536 .fp8e4m3)), Σ' (L9 : List (View.Piece (Elt F) S1x200 .f32)), Σ' (LS0 : List (View.Piece (Elt F) S224x1536 .fp8e4m3)), Σ' (LS1 : List (View.Piece (Elt F) S200x128 .f32)), { LS2 : List (View.Piece (Elt F) S200x1536 .f32) //
      ∀ (xi6 : Vec F S200x1536 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨[], ?_, ?_, ?_, ?_, ?_, ?_, fun xi6 E K => ?run⟩
  case run =>
    simp only [cc0__body_eq_skeleton]; unfold cc0__body_skel
    simp only [k0_part4_eq_skeleton, k0_part1_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [HS0]; · iexists _; iexact HS0
    isplitl [HS1]; · iexists _; iexact HS1
    iexists _; iexact HS2

end Cert.KernelIdeal.Run

end
-- ==== Proof.Run.RunB.lean ====
/- The body's run in case B. -/
module

public import proofs.«01_k».proof.Proof.Run.RunA

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1200000 in
/-- The pieces case B of the body leaves in each buffer it stores into (outputs 6 to 9, then the three scratch
    buffers), with the triple of the run that leaves them; a buffer the case leaves alone keeps its contents. -/
noncomputable def kernelRun0_B (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : ¬cond0_0 i) (hc1 : ¬cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) (xs0 : Vec F S224x1536 .fp8e4m3) (xs1 : Vec F S200x128 .f32) (xs2 : Vec F S200x1536 .f32) :
    Σ' (L6 : List (View.Piece (Elt F) S200x1536 .bf16)), Σ' (L7 : List (View.Piece (Elt F) S200x1280 .bf16)), Σ' (L8 : List (View.Piece (Elt F) S200x1536 .fp8e4m3)), Σ' (L9 : List (View.Piece (Elt F) S1x200 .f32)), Σ' (LS0 : List (View.Piece (Elt F) S224x1536 .fp8e4m3)), Σ' (LS1 : List (View.Piece (Elt F) S200x128 .f32)), { LS2 : List (View.Piece (Elt F) S200x1536 .f32) //
      ∀ (xi6 : Vec F S200x1536 .bf16) (xi8 : Vec F S200x1536 .fp8e4m3) (xi9 : Vec F S1x200 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d) ∗ owns (c : Thread nD τ) arg9 fullShare xi8 ∗ owns (c : Thread nD τ) arg10 fullShare xi9 ∗ owns (c : Thread nD τ) arg11 fullShare xs0 ∗ owns (c : Thread nD τ) arg12 fullShare xs1 ∗ owns (c : Thread nD τ) arg13 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f L7) ∗ owns (c : Thread nD τ) arg9 fullShare xi8 ∗ owns (c : Thread nD τ) arg10 fullShare xi9 ∗ owns (c : Thread nD τ) arg11 fullShare xs0 ∗ owns (c : Thread nD τ) arg12 fullShare xs1 ∗ (∃ f, arg13.view.loc (c : Thread nD τ) ↦[arg13.view.set]{fullShare} arg13.view.writes (Elt F) f LS2)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨[], ?_, [], [], [], [], ?_, fun xi6 xi8 xi9 E K => ?run⟩
  case run =>
    simp only [cc0__body_eq_skeleton]; unfold cc0__body_skel
    simp only [k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf8; obtain rfl := harg10.eq_unread hf9; obtain rfl := harg11.eq_unread hfs0; obtain rfl := harg12.eq_unread hfs1; obtain rfl := harg13.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]
    · iexists _; isplitr; · ipureintro; exact harg11.read_unread _
      iexact HS0
    isplitl [HS1]
    · iexists _; isplitr; · ipureintro; exact harg12.read_unread _
      iexact HS1
    iexists _; iexact HS2

end Cert.KernelIdeal.Run

end
-- ==== Proof.Run.RunC.lean ====
/- The body's run in case C. -/
module

public import proofs.«01_k».proof.Proof.Run.RunB

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1200000 in
/-- The pieces case C of the body leaves in each buffer it stores into (outputs 6 to 9, then the three scratch
    buffers), with the triple of the run that leaves them; a buffer the case leaves alone keeps its contents. -/
noncomputable def kernelRun0_C (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : ¬cond0_0 i) (hc1 : cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) (xs0 : Vec F S224x1536 .fp8e4m3) (xs1 : Vec F S200x128 .f32) (xs2 : Vec F S200x1536 .f32) :
    Σ' (L6 : List (View.Piece (Elt F) S200x1536 .bf16)), Σ' (L7 : List (View.Piece (Elt F) S200x1280 .bf16)), Σ' (L8 : List (View.Piece (Elt F) S200x1536 .fp8e4m3)), Σ' (L9 : List (View.Piece (Elt F) S1x200 .f32)), Σ' (LS0 : List (View.Piece (Elt F) S224x1536 .fp8e4m3)), Σ' (LS1 : List (View.Piece (Elt F) S200x128 .f32)), { LS2 : List (View.Piece (Elt F) S200x1536 .f32) //
      ∀ (xi8 : Vec F S200x1536 .fp8e4m3) (xi9 : Vec F S1x200 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xi8 ∗ owns (c : Thread nD τ) arg10 fullShare xi9 ∗ owns (c : Thread nD τ) arg11 fullShare xs0 ∗ owns (c : Thread nD τ) arg12 fullShare xs1 ∗ owns (c : Thread nD τ) arg13 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xi8 ∗ owns (c : Thread nD τ) arg10 fullShare xi9 ∗ owns (c : Thread nD τ) arg11 fullShare xs0 ∗ owns (c : Thread nD τ) arg12 fullShare xs1 ∗ (∃ f, arg13.view.loc (c : Thread nD τ) ↦[arg13.view.set]{fullShare} arg13.view.writes (Elt F) f LS2)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, [], [], [], [], ?_, fun xi8 xi9 E K => ?run⟩
  case run =>
    simp only [cc0__body_eq_skeleton]; unfold cc0__body_skel
    simp only [k0_part4_eq_skeleton, k0_part5_eq_skeleton, k0_part6_eq_skeleton, k0_part7_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg10.eq_unread hf9; obtain rfl := harg11.eq_unread hfs0; obtain rfl := harg12.eq_unread hfs1; obtain rfl := harg13.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]
    · iexists _; isplitr; · ipureintro; exact harg11.read_unread _
      iexact HS0
    isplitl [HS1]
    · iexists _; isplitr; · ipureintro; exact harg12.read_unread _
      iexact HS1
    iexists _; iexact HS2

end Cert.KernelIdeal.Run

end
-- ==== Proof.Run.Steps.lean ====
/- What the kernel's body leaves in each buffer, as functions of the blocks it loads and of what its scratch holds. -/
module

public import proofs.«01_k».proof.Proof.Run.RunC
public import Idealize.ShloMosaic.Lib.Pipeline.Value
public import Idealize.ShloMosaic.Lib.PointwiseCore

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open Cert.KernelIdeal Cert.KernelIdeal.Gen

variable {F : FTy → Type} [FloatOps F]

/-! ## The closed forms -/

/-- The fp8 codes of the activation block `x`. -/
def codesOf (x : Vec F S200x1536 .bf16) : Vec F S200x1536 .fp8e4m3 := k0_pay19 (k0_pay6 x) (k0_pay9 x)

/-- The row of scales of the activation block `x`. -/
def scalesOf (x : Vec F S200x1536 .bf16) : Vec F S1x200 .f32 := k0_pay24 (k0_pay8 x)

/-- The scales of `x`, each spread along its row of 128 lanes. -/
def sbOf (x : Vec F S200x1536 .bf16) : Vec F S200x128 .f32 := k0_pay23 (k0_pay8 x)

/-- The two stores into the padded code buffer, the last first: the codes over rows 0 to 199, zeros everywhere. -/
def xqPieces (x : Vec F S200x1536 .bf16) : List (View.Piece (Elt F) S224x1536 .fp8e4m3) :=
  [⟨Rect.unit (s := S224x1536) ![0, 0] S200x1536.size inb_S224x1536_S200x1536_0_0, k0_pay21 (k0_pay6 x) (k0_pay9 x)⟩,
   ⟨Rect.unit (s := S224x1536) ![0, 0] S224x1536.size inb_S224x1536_S224x1536_0_0, k0_pay20⟩]

/-- The padded code buffer: the codes of `x` over 24 rows of zeros. -/
def xqOf (x : Vec F S200x1536 .bf16) : Vec F S224x1536 .fp8e4m3 := View.canon (xqPieces x)

/-- Row `r` of a per-column operand held as 70 rows of 128 lanes. -/
def rowAt (v : Vec F S70x128 .f32) (r : ℕ) : Vec F S1x128 .f32 :=
  fun y => v (fun a => match a with | ⟨0, _⟩ => ⟨r % 70, Nat.mod_lt _ (by decide)⟩ | ⟨1, _⟩ => ⟨(y 1).val, (y 1).isLt⟩)

/-- Grid point `n`'s block of hidden values. -/
def hOf (n : ℕ) (xq : Vec F S224x1536 .fp8e4m3) (sb : Vec F S200x128 .f32) (wu : Vec F S1536x1280 .fp8e4m3)
    (su b : Vec F S70x128 .f32) : Vec F S200x1280 .bf16 :=
  k0_pay37 (k0_pay26 xq wu) sb (k0_pay27 xq wu sb (rowAt su (n * 10 + 0)) (rowAt b (n * 10 + 0)))
    (k0_pay29 (k0_pay28 xq wu sb (rowAt su (n * 10 + 1)) (rowAt b (n * 10 + 1))) (FloatOps.ofBits .f32 0#32))
    (k0_pay30 (k0_pay26 xq wu) sb (rowAt su (n * 10 + 2)) (rowAt b (n * 10 + 2)))
    (k0_pay31 (k0_pay26 xq wu) sb (rowAt su (n * 10 + 3)) (rowAt b (n * 10 + 3)))
    (k0_pay33 (k0_pay32 (k0_pay26 xq wu) sb (rowAt su (n * 10 + 4))) (rowAt b (n * 10 + 4)))
    (k0_pay34 (k0_pay26 xq wu) sb (rowAt su (n * 10 + 5)) (rowAt b (n * 10 + 5)))
    (k0_pay35 (k0_pay26 xq wu) sb (rowAt su (n * 10 + 6)) (rowAt b (n * 10 + 6)))
    (k0_pay36 (k0_pay26 xq wu) sb) (rowAt su (n * 10 + 7)) (rowAt b (n * 10 + 7)) (rowAt su (n * 10 + 8)) (rowAt b (n * 10 + 8))
    (rowAt su (n * 10 + 9)) (rowAt b (n * 10 + 9))

/-- The down-projection's accumulator after one more block of hidden values. -/
def accOf (h : Vec F S200x1280 .bf16) (acc : Vec F S200x1536 .f32) (wd : Vec F S1280x1536 .i8) : Vec F S200x1536 .f32 :=
  k0_pay1 h acc wd

/-- The result `y` from the finished accumulator: each column times its weight scale, rounded to bf16. -/
def yOf (acc : Vec F S200x1536 .f32) (sd : Vec F S12x128 .f32) : Vec F S200x1536 .bf16 :=
  truncf .bf16 (mulf acc (fun y => sd (fun a => match a with
    | ⟨0, _⟩ => ⟨(y 1).val / 128, by have h1 : (y 1).val < 1536 := (y 1).isLt; show (y 1).val / 128 < 12; omega⟩
    | ⟨1, _⟩ => ⟨(y 1).val % 128, by show (y 1).val % 128 < 128; omega⟩))) bitsLt_bf16_f32

/-- The row a load takes of a per-column operand, its number computed in 32-bit words from the grid point. -/
theorem ld_row (v : Vec F S70x128 .f32) (i : grid0.Coords) (k : Fin 10)
    (inb : ∀ a, k0_off1 i (BitVec.ofNat 32 k.val) a + S1x128.size a ≤ S70x128.size a) :
    View.ld v (Rect.unit (s := S70x128) (k0_off1 i (BitVec.ofNat 32 k.val)) S1x128.size inb) = rowAt v ((i 0).val * 10 + k.val) := by
  have hi : (i 0).val < 7 := (i 0).isLt
  have e : k0_off1 i (BitVec.ofNat 32 k.val) 0 = (i 0).val * 10 + k.val := by
    have h10 : ∀ n : Fin 7, ∀ k : Fin 10, BitVec.toNat (Scalar.indexCast (Scalar.addi (Scalar.muli (BitVec.ofNat 32 n.val) 10#32) (BitVec.ofNat 32 k.val))) = n.val * 10 + k.val := by decide +kernel
    exact h10 ⟨(i 0).val, hi⟩ k
  funext y
  have hy0 : (y 0).val < 1 := (y 0).isLt
  have hk := k.isLt
  refine congrArg v (funext fun a => Fin.ext ?_)
  match a with
  | ⟨0, _⟩ =>
    show k0_off1 i (BitVec.ofNat 32 k.val) 0 + 1 * (y 0).val = ((i 0).val * 10 + k.val) % 70
    have e' := e
    omega
  | ⟨1, _⟩ => show 0 + 1 * (y 1).val = (y 1).val; omega

/-- A load of a whole buffer reads what the stores into it left. -/
theorem readCov_whole {S : Shape} {e : EltTy} {κ : Kind} {sp : Space} (v : View sig κ sp S e) {off : Fin S.rank → ℕ}
    (h : off = fun _ => 0) (inb : ∀ a, off a + S.size a ≤ S.size a) (L : List (View.Piece (Elt F) S e)) :
    v.readCov L (Rect.unit off S.size inb).toLoadRect = View.canon L := by
  subst h
  rw [View.readCov_eq_canon']
  funext j
  exact congrArg (View.canon L) ((Rect.emb_whole_apply (s := S) j))

/-- A column tile of the result `y` as the last point computes it, at an index of the tile. -/
theorem y_tile (v : View sig .tc .vmem S200x1536 .f32) (acc : Vec F S200x1536 .f32) (sd : Vec F S12x128 .f32) (inb0 : ∀ a, (![0, 0] : Fin 2 → ℕ) a + S200x1536.size a ≤ S200x1536.size a)
    (n : ℕ) (inb : ∀ a, (![0, n * 128] : Fin 2 → ℕ) a + S200x128.size a ≤ S200x1536.size a)
    (inb' : ∀ a, (![n, 0] : Fin 2 → ℕ) a + S1x128.size a ≤ S12x128.size a) (x : S200x128.Idx) :
    k0_pay10 (v.readCov [⟨Rect.unit (s := S200x1536) ![0, 0] S200x1536.size inb0, acc⟩] (Rect.unit (s := S200x1536) ![0, n * 128] S200x128.size inb).toLoadRect)
        (View.ld sd (Rect.unit (s := S12x128) ![n, 0] S1x128.size inb')) x
      = yOf acc sd ((Rect.unit (s := S200x1536) ![0, n * 128] S200x128.size inb).emb x) := by
  have hz : (![0, 0] : Fin 2 → ℕ) = fun _ => 0 := by funext a; fin_cases a <;> rfl
  have hx1 : (x 1).val < 128 := (x 1).isLt
  have hx0 : (x 0).val < 200 := (x 0).isLt
  have hn : n < 12 := by have := inb' 0; simp at this; omega
  rw [View.readCov_eq_canon', View.canon_unit_zero hz]
  unfold k0_pay10 yOf
  pointwise
  have e1 : (Rect.unit (s := S200x1536) ![0, n * 128] S200x128.size inb).emb x = ix2 (x 0) ⟨n * 128 + (x 1).val, by omega⟩ := by
    funext a; fin_cases a <;> apply Fin.ext <;> simp [Rect.emb, Rect.unit, ix2]
  rw [e1]
  refine congrArg _ (congrArg₂ _ rfl (congrArg sd ?_))
  funext a; fin_cases a <;> apply Fin.ext <;> simp [ix2] <;> omega

/-- The twelve column tiles of `y` together are the whole result. -/
theorem y_canon (v : View sig .tc .vmem S200x1536 .f32) (acc : Vec F S200x1536 .f32) (sd : Vec F S12x128 .f32)
    (L : List (View.Piece (Elt F) S200x1536 .bf16))
    (hL : L = [⟨Rect.unit (s := S200x1536) ![0, 1408] S200x128.size inb_S200x1536_S200x128_0_1408, k0_pay5 (v.readCov [⟨Rect.unit (s := S200x1536) ![0, 0] S200x1536.size inb_S200x1536_S200x1536_0_0, acc⟩] (Rect.unit (s := S200x1536) ![0, 1408] S200x128.size inb_S200x1536_S200x128_0_1408).toLoadRect) (View.ld sd (Rect.unit (s := S12x128) ![11, 0] S1x128.size inb_S12x128_S1x128_11_0))⟩,
      ⟨Rect.unit (s := S200x1536) ![0, 1280] S200x128.size inb_S200x1536_S200x128_0_1280, k0_pay4 (v.readCov [⟨Rect.unit (s := S200x1536) ![0, 0] S200x1536.size inb_S200x1536_S200x1536_0_0, acc⟩] (Rect.unit (s := S200x1536) ![0, 1280] S200x128.size inb_S200x1536_S200x128_0_1280).toLoadRect) (View.ld sd (Rect.unit (s := S12x128) ![10, 0] S1x128.size inb_S12x128_S1x128_10_0))⟩,
      ⟨Rect.unit (s := S200x1536) ![0, 1152] S200x128.size inb_S200x1536_S200x128_0_1152, k0_pay3 (v.readCov [⟨Rect.unit (s := S200x1536) ![0, 0] S200x1536.size inb_S200x1536_S200x1536_0_0, acc⟩] (Rect.unit (s := S200x1536) ![0, 1152] S200x128.size inb_S200x1536_S200x128_0_1152).toLoadRect) (View.ld sd (Rect.unit (s := S12x128) ![9, 0] S1x128.size inb_S12x128_S1x128_9_0))⟩,
      ⟨Rect.unit (s := S200x1536) ![0, 1024] S200x128.size inb_S200x1536_S200x128_0_1024, k0_pay2 (v.readCov [⟨Rect.unit (s := S200x1536) ![0, 0] S200x1536.size inb_S200x1536_S200x1536_0_0, acc⟩] (Rect.unit (s := S200x1536) ![0, 1024] S200x128.size inb_S200x1536_S200x128_0_1024).toLoadRect) (k0_pay18 (View.ld sd (Rect.unit (s := S12x128) ![8, 0] S1x128.size inb_S12x128_S1x128_8_0)))⟩,
      ⟨Rect.unit (s := S200x1536) ![0, 896] S200x128.size inb_S200x1536_S200x128_0_896, k0_pay17 (v.readCov [⟨Rect.unit (s := S200x1536) ![0, 0] S200x1536.size inb_S200x1536_S200x1536_0_0, acc⟩] (Rect.unit (s := S200x1536) ![0, 896] S200x128.size inb_S200x1536_S200x128_0_896).toLoadRect) (View.ld sd (Rect.unit (s := S12x128) ![7, 0] S1x128.size inb_S12x128_S1x128_7_0))⟩,
      ⟨Rect.unit (s := S200x1536) ![0, 768] S200x128.size inb_S200x1536_S200x128_0_768, k0_pay16 (v.readCov [⟨Rect.unit (s := S200x1536) ![0, 0] S200x1536.size inb_S200x1536_S200x1536_0_0, acc⟩] (Rect.unit (s := S200x1536) ![0, 768] S200x128.size inb_S200x1536_S200x128_0_768).toLoadRect) (View.ld sd (Rect.unit (s := S12x128) ![6, 0] S1x128.size inb_S12x128_S1x128_6_0))⟩,
      ⟨Rect.unit (s := S200x1536) ![0, 640] S200x128.size inb_S200x1536_S200x128_0_640, k0_pay15 (v.readCov [⟨Rect.unit (s := S200x1536) ![0, 0] S200x1536.size inb_S200x1536_S200x1536_0_0, acc⟩] (Rect.unit (s := S200x1536) ![0, 640] S200x128.size inb_S200x1536_S200x128_0_640).toLoadRect) (View.ld sd (Rect.unit (s := S12x128) ![5, 0] S1x128.size inb_S12x128_S1x128_5_0))⟩,
      ⟨Rect.unit (s := S200x1536) ![0, 512] S200x128.size inb_S200x1536_S200x128_0_512, k0_pay14 (v.readCov [⟨Rect.unit (s := S200x1536) ![0, 0] S200x1536.size inb_S200x1536_S200x1536_0_0, acc⟩] (Rect.unit (s := S200x1536) ![0, 512] S200x128.size inb_S200x1536_S200x128_0_512).toLoadRect) (View.ld sd (Rect.unit (s := S12x128) ![4, 0] S1x128.size inb_S12x128_S1x128_4_0))⟩,
      ⟨Rect.unit (s := S200x1536) ![0, 384] S200x128.size inb_S200x1536_S200x128_0_384, k0_pay13 (v.readCov [⟨Rect.unit (s := S200x1536) ![0, 0] S200x1536.size inb_S200x1536_S200x1536_0_0, acc⟩] (Rect.unit (s := S200x1536) ![0, 384] S200x128.size inb_S200x1536_S200x128_0_384).toLoadRect) (View.ld sd (Rect.unit (s := S12x128) ![3, 0] S1x128.size inb_S12x128_S1x128_3_0))⟩,
      ⟨Rect.unit (s := S200x1536) ![0, 256] S200x128.size inb_S200x1536_S200x128_0_256, k0_pay12 (v.readCov [⟨Rect.unit (s := S200x1536) ![0, 0] S200x1536.size inb_S200x1536_S200x1536_0_0, acc⟩] (Rect.unit (s := S200x1536) ![0, 256] S200x128.size inb_S200x1536_S200x128_0_256).toLoadRect) (View.ld sd (Rect.unit (s := S12x128) ![2, 0] S1x128.size inb_S12x128_S1x128_2_0))⟩,
      ⟨Rect.unit (s := S200x1536) ![0, 128] S200x128.size inb_S200x1536_S200x128_0_128, k0_pay11 (v.readCov [⟨Rect.unit (s := S200x1536) ![0, 0] S200x1536.size inb_S200x1536_S200x1536_0_0, acc⟩] (Rect.unit (s := S200x1536) ![0, 128] S200x128.size inb_S200x1536_S200x128_0_128).toLoadRect) (View.ld sd (Rect.unit (s := S12x128) ![1, 0] S1x128.size inb_S12x128_S1x128_1_0))⟩,
      ⟨Rect.unit (s := S200x1536) ![0, 0] S200x128.size inb_S200x1536_S200x128_0_0, k0_pay10 (v.readCov [⟨Rect.unit (s := S200x1536) ![0, 0] S200x1536.size inb_S200x1536_S200x1536_0_0, acc⟩] (Rect.unit (s := S200x1536) ![0, 0] S200x128.size inb_S200x1536_S200x128_0_0).toLoadRect) (View.ld sd (Rect.unit (s := S12x128) ![0, 0] S1x128.size inb_S12x128_S1x128_0_0))⟩]) :
    View.canon L = yOf acc sd := by
  funext y
  refine View.canon_apply_of_pieces (yOf acc sd) L ?_ y (View.cover_of_tiledL L S200x128.size (by subst hL; sl_kernel_rfl) y)
  subst hL
  intro p hp
  simp only [List.mem_cons, List.not_mem_nil, or_false] at hp
  rcases hp with rfl | rfl | rfl | rfl | rfl | rfl | rfl | rfl | rfl | rfl | rfl | rfl
  · exact fun x => y_tile v acc sd _ 11 inb_S200x1536_S200x128_0_1408 inb_S12x128_S1x128_11_0 x
  · exact fun x => y_tile v acc sd _ 10 inb_S200x1536_S200x128_0_1280 inb_S12x128_S1x128_10_0 x
  · exact fun x => y_tile v acc sd _ 9 inb_S200x1536_S200x128_0_1152 inb_S12x128_S1x128_9_0 x
  · exact fun x => y_tile v acc sd _ 8 inb_S200x1536_S200x128_0_1024 inb_S12x128_S1x128_8_0 x
  · exact fun x => y_tile v acc sd _ 7 inb_S200x1536_S200x128_0_896 inb_S12x128_S1x128_7_0 x
  · exact fun x => y_tile v acc sd _ 6 inb_S200x1536_S200x128_0_768 inb_S12x128_S1x128_6_0 x
  · exact fun x => y_tile v acc sd _ 5 inb_S200x1536_S200x128_0_640 inb_S12x128_S1x128_5_0 x
  · exact fun x => y_tile v acc sd _ 4 inb_S200x1536_S200x128_0_512 inb_S12x128_S1x128_4_0 x
  · exact fun x => y_tile v acc sd _ 3 inb_S200x1536_S200x128_0_384 inb_S12x128_S1x128_3_0 x
  · exact fun x => y_tile v acc sd _ 2 inb_S200x1536_S200x128_0_256 inb_S12x128_S1x128_2_0 x
  · exact fun x => y_tile v acc sd _ 1 inb_S200x1536_S200x128_0_128 inb_S12x128_S1x128_1_0 x
  · exact fun x => y_tile v acc sd _ 0 inb_S200x1536_S200x128_0_0 inb_S12x128_S1x128_0_0 x

/-! ## The first point -/

/-- The block of hidden values the first point leaves. -/
theorem canonA_7 (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : cond0_0 i) (hc1 : ¬cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1 = hOf (i 0).val (xqOf x0) (sbOf x0) x1 x2 x3 := by
  unfold kernelRun0_A
  dsimp only
  sl_unfold_words
  have hz : (![0, 0] : Fin 2 → ℕ) = fun _ => 0 := by funext a; fin_cases a <;> rfl
  rw [View.canon_unit_zero hz]
  simp only [View.readAt_eq_ld, harg1.read_unread, harg2.read_unread, harg3.read_unread, harg4.read_unread, harg5.read_unread, harg6.read_unread, harg11.read_unread, harg12.read_unread, harg13.read_unread, View.ld_unit_zero (S := S200x1536) hz, View.ld_unit_zero (S := S1536x1280) hz, View.ld_unit_zero (S := S1280x1536) hz, View.ld_unit_zero (S := S224x1536) hz, View.ld_unit_zero (S := S200x128) hz, View.ld_unit_zero (S := S200x1280) hz, readCov_whole (S := S224x1536) _ hz, readCov_whole (S := S200x128) _ hz, readCov_whole (S := S200x1536) _ hz, View.canon_unit_zero (S := S200x128) hz, View.canon_unit_zero (S := S200x1536) hz]
  unfold hOf xqOf sbOf
  have r0 : ∀ v : Vec F S70x128 .f32, View.ld v (Rect.unit (s := S70x128) (k0_off1 i 0#32) S1x128.size (k0_off1_inb i 0)) = rowAt v ((i 0).val * 10 + 0) := fun v => ld_row v i 0 _
  have r1 : ∀ v : Vec F S70x128 .f32, View.ld v (Rect.unit (s := S70x128) (k0_off1 i 1#32) S1x128.size (k0_off1_inb i 1)) = rowAt v ((i 0).val * 10 + 1) := fun v => ld_row v i 1 _
  have r2 : ∀ v : Vec F S70x128 .f32, View.ld v (Rect.unit (s := S70x128) (k0_off1 i 2#32) S1x128.size (k0_off1_inb i 2)) = rowAt v ((i 0).val * 10 + 2) := fun v => ld_row v i 2 _
  have r3 : ∀ v : Vec F S70x128 .f32, View.ld v (Rect.unit (s := S70x128) (k0_off1 i 3#32) S1x128.size (k0_off1_inb i 3)) = rowAt v ((i 0).val * 10 + 3) := fun v => ld_row v i 3 _
  have r4 : ∀ v : Vec F S70x128 .f32, View.ld v (Rect.unit (s := S70x128) (k0_off1 i 4#32) S1x128.size (k0_off1_inb i 4)) = rowAt v ((i 0).val * 10 + 4) := fun v => ld_row v i 4 _
  have r5 : ∀ v : Vec F S70x128 .f32, View.ld v (Rect.unit (s := S70x128) (k0_off1 i 5#32) S1x128.size (k0_off1_inb i 5)) = rowAt v ((i 0).val * 10 + 5) := fun v => ld_row v i 5 _
  have r6 : ∀ v : Vec F S70x128 .f32, View.ld v (Rect.unit (s := S70x128) (k0_off1 i 6#32) S1x128.size (k0_off1_inb i 6)) = rowAt v ((i 0).val * 10 + 6) := fun v => ld_row v i 6 _
  have r7 : ∀ v : Vec F S70x128 .f32, View.ld v (Rect.unit (s := S70x128) (k0_off1 i 7#32) S1x128.size (k0_off1_inb i 7)) = rowAt v ((i 0).val * 10 + 7) := fun v => ld_row v i 7 _
  have r8 : ∀ v : Vec F S70x128 .f32, View.ld v (Rect.unit (s := S70x128) (k0_off1 i 8#32) S1x128.size (k0_off1_inb i 8)) = rowAt v ((i 0).val * 10 + 8) := fun v => ld_row v i 8 _
  have r9 : ∀ v : Vec F S70x128 .f32, View.ld v (Rect.unit (s := S70x128) (k0_off1 i 9#32) S1x128.size (k0_off1_inb i 9)) = rowAt v ((i 0).val * 10 + 9) := fun v => ld_row v i 9 _
  simp only [← r0, ← r1, ← r2, ← r3, ← r4, ← r5, ← r6, ← r7, ← r8, ← r9]
  rfl

/-- The codes the first point leaves. -/
theorem canonA_8 (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : cond0_0 i) (hc1 : ¬cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1 = codesOf x0 := by
  unfold kernelRun0_A
  dsimp only
  sl_unfold_words
  have hz : (![0, 0] : Fin 2 → ℕ) = fun _ => 0 := by funext a; fin_cases a <;> rfl
  rw [View.canon_unit_zero hz]
  simp only [View.readAt_eq_ld, harg1.read_unread, harg2.read_unread, harg3.read_unread, harg4.read_unread, harg5.read_unread, harg6.read_unread, harg11.read_unread, harg12.read_unread, harg13.read_unread, View.ld_unit_zero (S := S200x1536) hz, View.ld_unit_zero (S := S1536x1280) hz, View.ld_unit_zero (S := S1280x1536) hz, View.ld_unit_zero (S := S224x1536) hz, View.ld_unit_zero (S := S200x128) hz, View.ld_unit_zero (S := S200x1280) hz]
  rfl

/-- The scales the first point leaves. -/
theorem canonA_9 (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : cond0_0 i) (hc1 : ¬cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1 = scalesOf x0 := by
  unfold kernelRun0_A
  dsimp only
  sl_unfold_words
  have hz : (![0, 0] : Fin 2 → ℕ) = fun _ => 0 := by funext a; fin_cases a <;> rfl
  rw [View.canon_unit_zero hz]
  simp only [View.readAt_eq_ld, harg1.read_unread, harg2.read_unread, harg3.read_unread, harg4.read_unread, harg5.read_unread, harg6.read_unread, harg11.read_unread, harg12.read_unread, harg13.read_unread, View.ld_unit_zero (S := S200x1536) hz, View.ld_unit_zero (S := S1536x1280) hz, View.ld_unit_zero (S := S1280x1536) hz, View.ld_unit_zero (S := S224x1536) hz, View.ld_unit_zero (S := S200x128) hz, View.ld_unit_zero (S := S200x1280) hz]
  rfl

/-- The padded codes the first point leaves in its scratch. -/
theorem canonA_s0 (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : cond0_0 i) (hc1 : ¬cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1 = xqOf x0 := by
  unfold kernelRun0_A
  dsimp only
  sl_unfold_words
  have hz : (![0, 0] : Fin 2 → ℕ) = fun _ => 0 := by funext a; fin_cases a <;> rfl
  simp only [View.readAt_eq_ld, harg1.read_unread, harg2.read_unread, harg3.read_unread, harg4.read_unread, harg5.read_unread, harg6.read_unread, harg11.read_unread, harg12.read_unread, harg13.read_unread, View.ld_unit_zero (S := S200x1536) hz, View.ld_unit_zero (S := S1536x1280) hz, View.ld_unit_zero (S := S1280x1536) hz, View.ld_unit_zero (S := S224x1536) hz, View.ld_unit_zero (S := S200x128) hz, View.ld_unit_zero (S := S200x1280) hz]
  rfl

/-- The spread scales the first point leaves in its scratch. -/
theorem canonA_s1 (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : cond0_0 i) (hc1 : ¬cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.2.1 = sbOf x0 := by
  unfold kernelRun0_A
  dsimp only
  sl_unfold_words
  have hz : (![0, 0] : Fin 2 → ℕ) = fun _ => 0 := by funext a; fin_cases a <;> rfl
  rw [View.canon_unit_zero hz]
  simp only [View.readAt_eq_ld, harg1.read_unread, harg2.read_unread, harg3.read_unread, harg4.read_unread, harg5.read_unread, harg6.read_unread, harg11.read_unread, harg12.read_unread, harg13.read_unread, View.ld_unit_zero (S := S200x1536) hz, View.ld_unit_zero (S := S1536x1280) hz, View.ld_unit_zero (S := S1280x1536) hz, View.ld_unit_zero (S := S224x1536) hz, View.ld_unit_zero (S := S200x128) hz, View.ld_unit_zero (S := S200x1280) hz]
  rfl

/-- The accumulator the first point leaves. -/
theorem canonA_s2 (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : cond0_0 i) (hc1 : ¬cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) :
    View.canon (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.2.2.1 = accOf (hOf (i 0).val (xqOf x0) (sbOf x0) x1 x2 x3) k0_pay25 x4 := by
  unfold kernelRun0_A
  dsimp only
  sl_unfold_words
  have hz : (![0, 0] : Fin 2 → ℕ) = fun _ => 0 := by funext a; fin_cases a <;> rfl
  rw [View.canon_cons_unit_zero hz]
  simp only [View.readAt_eq_ld, harg1.read_unread, harg2.read_unread, harg3.read_unread, harg4.read_unread, harg5.read_unread, harg6.read_unread, harg11.read_unread, harg12.read_unread, harg13.read_unread, View.ld_unit_zero (S := S200x1536) hz, View.ld_unit_zero (S := S1536x1280) hz, View.ld_unit_zero (S := S1280x1536) hz, View.ld_unit_zero (S := S224x1536) hz, View.ld_unit_zero (S := S200x128) hz, View.ld_unit_zero (S := S200x1280) hz, readCov_whole (S := S224x1536) _ hz, readCov_whole (S := S200x128) _ hz, readCov_whole (S := S200x1536) _ hz, View.canon_unit_zero (S := S200x128) hz, View.canon_unit_zero (S := S200x1536) hz]
  unfold accOf hOf xqOf sbOf
  have r0 : ∀ v : Vec F S70x128 .f32, View.ld v (Rect.unit (s := S70x128) (k0_off1 i 0#32) S1x128.size (k0_off1_inb i 0)) = rowAt v ((i 0).val * 10 + 0) := fun v => ld_row v i 0 _
  have r1 : ∀ v : Vec F S70x128 .f32, View.ld v (Rect.unit (s := S70x128) (k0_off1 i 1#32) S1x128.size (k0_off1_inb i 1)) = rowAt v ((i 0).val * 10 + 1) := fun v => ld_row v i 1 _
  have r2 : ∀ v : Vec F S70x128 .f32, View.ld v (Rect.unit (s := S70x128) (k0_off1 i 2#32) S1x128.size (k0_off1_inb i 2)) = rowAt v ((i 0).val * 10 + 2) := fun v => ld_row v i 2 _
  have r3 : ∀ v : Vec F S70x128 .f32, View.ld v (Rect.unit (s := S70x128) (k0_off1 i 3#32) S1x128.size (k0_off1_inb i 3)) = rowAt v ((i 0).val * 10 + 3) := fun v => ld_row v i 3 _
  have r4 : ∀ v : Vec F S70x128 .f32, View.ld v (Rect.unit (s := S70x128) (k0_off1 i 4#32) S1x128.size (k0_off1_inb i 4)) = rowAt v ((i 0).val * 10 + 4) := fun v => ld_row v i 4 _
  have r5 : ∀ v : Vec F S70x128 .f32, View.ld v (Rect.unit (s := S70x128) (k0_off1 i 5#32) S1x128.size (k0_off1_inb i 5)) = rowAt v ((i 0).val * 10 + 5) := fun v => ld_row v i 5 _
  have r6 : ∀ v : Vec F S70x128 .f32, View.ld v (Rect.unit (s := S70x128) (k0_off1 i 6#32) S1x128.size (k0_off1_inb i 6)) = rowAt v ((i 0).val * 10 + 6) := fun v => ld_row v i 6 _
  have r7 : ∀ v : Vec F S70x128 .f32, View.ld v (Rect.unit (s := S70x128) (k0_off1 i 7#32) S1x128.size (k0_off1_inb i 7)) = rowAt v ((i 0).val * 10 + 7) := fun v => ld_row v i 7 _
  have r8 : ∀ v : Vec F S70x128 .f32, View.ld v (Rect.unit (s := S70x128) (k0_off1 i 8#32) S1x128.size (k0_off1_inb i 8)) = rowAt v ((i 0).val * 10 + 8) := fun v => ld_row v i 8 _
  have r9 : ∀ v : Vec F S70x128 .f32, View.ld v (Rect.unit (s := S70x128) (k0_off1 i 9#32) S1x128.size (k0_off1_inb i 9)) = rowAt v ((i 0).val * 10 + 9) := fun v => ld_row v i 9 _
  simp only [← r0, ← r1, ← r2, ← r3, ← r4, ← r5, ← r6, ← r7, ← r8, ← r9]
  rfl

/-! ## The middle points -/

/-- The block of hidden values a middle point leaves. -/
theorem canonB_7 (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : ¬cond0_0 i) (hc1 : ¬cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) (xs0 : Vec F S224x1536 .fp8e4m3) (xs1 : Vec F S200x128 .f32) (xs2 : Vec F S200x1536 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2).2.1 = hOf (i 0).val xs0 xs1 x1 x2 x3 := by
  unfold kernelRun0_B
  dsimp only
  sl_unfold_words
  have hz : (![0, 0] : Fin 2 → ℕ) = fun _ => 0 := by funext a; fin_cases a <;> rfl
  rw [View.canon_unit_zero hz]
  simp only [View.readAt_eq_ld, harg1.read_unread, harg2.read_unread, harg3.read_unread, harg4.read_unread, harg5.read_unread, harg6.read_unread, harg11.read_unread, harg12.read_unread, harg13.read_unread, View.ld_unit_zero (S := S200x1536) hz, View.ld_unit_zero (S := S1536x1280) hz, View.ld_unit_zero (S := S1280x1536) hz, View.ld_unit_zero (S := S224x1536) hz, View.ld_unit_zero (S := S200x128) hz, View.ld_unit_zero (S := S200x1280) hz]
  unfold hOf
  have r0 : ∀ v : Vec F S70x128 .f32, View.ld v (Rect.unit (s := S70x128) (k0_off1 i 0#32) S1x128.size (k0_off1_inb i 0)) = rowAt v ((i 0).val * 10 + 0) := fun v => ld_row v i 0 _
  have r1 : ∀ v : Vec F S70x128 .f32, View.ld v (Rect.unit (s := S70x128) (k0_off1 i 1#32) S1x128.size (k0_off1_inb i 1)) = rowAt v ((i 0).val * 10 + 1) := fun v => ld_row v i 1 _
  have r2 : ∀ v : Vec F S70x128 .f32, View.ld v (Rect.unit (s := S70x128) (k0_off1 i 2#32) S1x128.size (k0_off1_inb i 2)) = rowAt v ((i 0).val * 10 + 2) := fun v => ld_row v i 2 _
  have r3 : ∀ v : Vec F S70x128 .f32, View.ld v (Rect.unit (s := S70x128) (k0_off1 i 3#32) S1x128.size (k0_off1_inb i 3)) = rowAt v ((i 0).val * 10 + 3) := fun v => ld_row v i 3 _
  have r4 : ∀ v : Vec F S70x128 .f32, View.ld v (Rect.unit (s := S70x128) (k0_off1 i 4#32) S1x128.size (k0_off1_inb i 4)) = rowAt v ((i 0).val * 10 + 4) := fun v => ld_row v i 4 _
  have r5 : ∀ v : Vec F S70x128 .f32, View.ld v (Rect.unit (s := S70x128) (k0_off1 i 5#32) S1x128.size (k0_off1_inb i 5)) = rowAt v ((i 0).val * 10 + 5) := fun v => ld_row v i 5 _
  have r6 : ∀ v : Vec F S70x128 .f32, View.ld v (Rect.unit (s := S70x128) (k0_off1 i 6#32) S1x128.size (k0_off1_inb i 6)) = rowAt v ((i 0).val * 10 + 6) := fun v => ld_row v i 6 _
  have r7 : ∀ v : Vec F S70x128 .f32, View.ld v (Rect.unit (s := S70x128) (k0_off1 i 7#32) S1x128.size (k0_off1_inb i 7)) = rowAt v ((i 0).val * 10 + 7) := fun v => ld_row v i 7 _
  have r8 : ∀ v : Vec F S70x128 .f32, View.ld v (Rect.unit (s := S70x128) (k0_off1 i 8#32) S1x128.size (k0_off1_inb i 8)) = rowAt v ((i 0).val * 10 + 8) := fun v => ld_row v i 8 _
  have r9 : ∀ v : Vec F S70x128 .f32, View.ld v (Rect.unit (s := S70x128) (k0_off1 i 9#32) S1x128.size (k0_off1_inb i 9)) = rowAt v ((i 0).val * 10 + 9) := fun v => ld_row v i 9 _
  simp only [← r0, ← r1, ← r2, ← r3, ← r4, ← r5, ← r6, ← r7, ← r8, ← r9]
  rfl

/-- The accumulator a middle point leaves. -/
theorem canonB_s2 (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : ¬cond0_0 i) (hc1 : ¬cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) (xs0 : Vec F S224x1536 .fp8e4m3) (xs1 : Vec F S200x128 .f32) (xs2 : Vec F S200x1536 .f32) :
    View.canon (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2).2.2.2.2.2.2.1 = accOf (hOf (i 0).val xs0 xs1 x1 x2 x3) xs2 x4 := by
  unfold kernelRun0_B
  dsimp only
  sl_unfold_words
  have hz : (![0, 0] : Fin 2 → ℕ) = fun _ => 0 := by funext a; fin_cases a <;> rfl
  rw [View.canon_unit_zero hz]
  simp only [View.readAt_eq_ld, harg1.read_unread, harg2.read_unread, harg3.read_unread, harg4.read_unread, harg5.read_unread, harg6.read_unread, harg11.read_unread, harg12.read_unread, harg13.read_unread, View.ld_unit_zero (S := S200x1536) hz, View.ld_unit_zero (S := S1536x1280) hz, View.ld_unit_zero (S := S1280x1536) hz, View.ld_unit_zero (S := S224x1536) hz, View.ld_unit_zero (S := S200x128) hz, View.ld_unit_zero (S := S200x1280) hz]
  unfold accOf hOf
  have r0 : ∀ v : Vec F S70x128 .f32, View.ld v (Rect.unit (s := S70x128) (k0_off1 i 0#32) S1x128.size (k0_off1_inb i 0)) = rowAt v ((i 0).val * 10 + 0) := fun v => ld_row v i 0 _
  have r1 : ∀ v : Vec F S70x128 .f32, View.ld v (Rect.unit (s := S70x128) (k0_off1 i 1#32) S1x128.size (k0_off1_inb i 1)) = rowAt v ((i 0).val * 10 + 1) := fun v => ld_row v i 1 _
  have r2 : ∀ v : Vec F S70x128 .f32, View.ld v (Rect.unit (s := S70x128) (k0_off1 i 2#32) S1x128.size (k0_off1_inb i 2)) = rowAt v ((i 0).val * 10 + 2) := fun v => ld_row v i 2 _
  have r3 : ∀ v : Vec F S70x128 .f32, View.ld v (Rect.unit (s := S70x128) (k0_off1 i 3#32) S1x128.size (k0_off1_inb i 3)) = rowAt v ((i 0).val * 10 + 3) := fun v => ld_row v i 3 _
  have r4 : ∀ v : Vec F S70x128 .f32, View.ld v (Rect.unit (s := S70x128) (k0_off1 i 4#32) S1x128.size (k0_off1_inb i 4)) = rowAt v ((i 0).val * 10 + 4) := fun v => ld_row v i 4 _
  have r5 : ∀ v : Vec F S70x128 .f32, View.ld v (Rect.unit (s := S70x128) (k0_off1 i 5#32) S1x128.size (k0_off1_inb i 5)) = rowAt v ((i 0).val * 10 + 5) := fun v => ld_row v i 5 _
  have r6 : ∀ v : Vec F S70x128 .f32, View.ld v (Rect.unit (s := S70x128) (k0_off1 i 6#32) S1x128.size (k0_off1_inb i 6)) = rowAt v ((i 0).val * 10 + 6) := fun v => ld_row v i 6 _
  have r7 : ∀ v : Vec F S70x128 .f32, View.ld v (Rect.unit (s := S70x128) (k0_off1 i 7#32) S1x128.size (k0_off1_inb i 7)) = rowAt v ((i 0).val * 10 + 7) := fun v => ld_row v i 7 _
  have r8 : ∀ v : Vec F S70x128 .f32, View.ld v (Rect.unit (s := S70x128) (k0_off1 i 8#32) S1x128.size (k0_off1_inb i 8)) = rowAt v ((i 0).val * 10 + 8) := fun v => ld_row v i 8 _
  have r9 : ∀ v : Vec F S70x128 .f32, View.ld v (Rect.unit (s := S70x128) (k0_off1 i 9#32) S1x128.size (k0_off1_inb i 9)) = rowAt v ((i 0).val * 10 + 9) := fun v => ld_row v i 9 _
  simp only [← r0, ← r1, ← r2, ← r3, ← r4, ← r5, ← r6, ← r7, ← r8, ← r9]
  rfl

/-! ## The last point -/

/-- The block of hidden values the last point leaves. -/
theorem canonC_7 (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : ¬cond0_0 i) (hc1 : cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) (xs0 : Vec F S224x1536 .fp8e4m3) (xs1 : Vec F S200x128 .f32) (xs2 : Vec F S200x1536 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2).2.1 = hOf (i 0).val xs0 xs1 x1 x2 x3 := by
  unfold kernelRun0_C
  dsimp only
  sl_unfold_words
  have hz : (![0, 0] : Fin 2 → ℕ) = fun _ => 0 := by funext a; fin_cases a <;> rfl
  rw [View.canon_unit_zero hz]
  simp only [View.readAt_eq_ld, harg1.read_unread, harg2.read_unread, harg3.read_unread, harg4.read_unread, harg5.read_unread, harg6.read_unread, harg11.read_unread, harg12.read_unread, harg13.read_unread, View.ld_unit_zero (S := S200x1536) hz, View.ld_unit_zero (S := S1536x1280) hz, View.ld_unit_zero (S := S1280x1536) hz, View.ld_unit_zero (S := S224x1536) hz, View.ld_unit_zero (S := S200x128) hz, View.ld_unit_zero (S := S200x1280) hz]
  unfold hOf
  have r0 : ∀ v : Vec F S70x128 .f32, View.ld v (Rect.unit (s := S70x128) (k0_off1 i 0#32) S1x128.size (k0_off1_inb i 0)) = rowAt v ((i 0).val * 10 + 0) := fun v => ld_row v i 0 _
  have r1 : ∀ v : Vec F S70x128 .f32, View.ld v (Rect.unit (s := S70x128) (k0_off1 i 1#32) S1x128.size (k0_off1_inb i 1)) = rowAt v ((i 0).val * 10 + 1) := fun v => ld_row v i 1 _
  have r2 : ∀ v : Vec F S70x128 .f32, View.ld v (Rect.unit (s := S70x128) (k0_off1 i 2#32) S1x128.size (k0_off1_inb i 2)) = rowAt v ((i 0).val * 10 + 2) := fun v => ld_row v i 2 _
  have r3 : ∀ v : Vec F S70x128 .f32, View.ld v (Rect.unit (s := S70x128) (k0_off1 i 3#32) S1x128.size (k0_off1_inb i 3)) = rowAt v ((i 0).val * 10 + 3) := fun v => ld_row v i 3 _
  have r4 : ∀ v : Vec F S70x128 .f32, View.ld v (Rect.unit (s := S70x128) (k0_off1 i 4#32) S1x128.size (k0_off1_inb i 4)) = rowAt v ((i 0).val * 10 + 4) := fun v => ld_row v i 4 _
  have r5 : ∀ v : Vec F S70x128 .f32, View.ld v (Rect.unit (s := S70x128) (k0_off1 i 5#32) S1x128.size (k0_off1_inb i 5)) = rowAt v ((i 0).val * 10 + 5) := fun v => ld_row v i 5 _
  have r6 : ∀ v : Vec F S70x128 .f32, View.ld v (Rect.unit (s := S70x128) (k0_off1 i 6#32) S1x128.size (k0_off1_inb i 6)) = rowAt v ((i 0).val * 10 + 6) := fun v => ld_row v i 6 _
  have r7 : ∀ v : Vec F S70x128 .f32, View.ld v (Rect.unit (s := S70x128) (k0_off1 i 7#32) S1x128.size (k0_off1_inb i 7)) = rowAt v ((i 0).val * 10 + 7) := fun v => ld_row v i 7 _
  have r8 : ∀ v : Vec F S70x128 .f32, View.ld v (Rect.unit (s := S70x128) (k0_off1 i 8#32) S1x128.size (k0_off1_inb i 8)) = rowAt v ((i 0).val * 10 + 8) := fun v => ld_row v i 8 _
  have r9 : ∀ v : Vec F S70x128 .f32, View.ld v (Rect.unit (s := S70x128) (k0_off1 i 9#32) S1x128.size (k0_off1_inb i 9)) = rowAt v ((i 0).val * 10 + 9) := fun v => ld_row v i 9 _
  simp only [← r0, ← r1, ← r2, ← r3, ← r4, ← r5, ← r6, ← r7, ← r8, ← r9]
  rfl

/-- The accumulator the last point leaves. -/
theorem canonC_s2 (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : ¬cond0_0 i) (hc1 : cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) (xs0 : Vec F S224x1536 .fp8e4m3) (xs1 : Vec F S200x128 .f32) (xs2 : Vec F S200x1536 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2).2.2.2.2.2.2.1 = accOf (hOf (i 0).val xs0 xs1 x1 x2 x3) xs2 x4 := by
  unfold kernelRun0_C
  dsimp only
  sl_unfold_words
  have hz : (![0, 0] : Fin 2 → ℕ) = fun _ => 0 := by funext a; fin_cases a <;> rfl
  rw [View.canon_unit_zero hz]
  simp only [View.readAt_eq_ld, harg1.read_unread, harg2.read_unread, harg3.read_unread, harg4.read_unread, harg5.read_unread, harg6.read_unread, harg11.read_unread, harg12.read_unread, harg13.read_unread, View.ld_unit_zero (S := S200x1536) hz, View.ld_unit_zero (S := S1536x1280) hz, View.ld_unit_zero (S := S1280x1536) hz, View.ld_unit_zero (S := S224x1536) hz, View.ld_unit_zero (S := S200x128) hz, View.ld_unit_zero (S := S200x1280) hz]
  unfold accOf hOf
  have r0 : ∀ v : Vec F S70x128 .f32, View.ld v (Rect.unit (s := S70x128) (k0_off1 i 0#32) S1x128.size (k0_off1_inb i 0)) = rowAt v ((i 0).val * 10 + 0) := fun v => ld_row v i 0 _
  have r1 : ∀ v : Vec F S70x128 .f32, View.ld v (Rect.unit (s := S70x128) (k0_off1 i 1#32) S1x128.size (k0_off1_inb i 1)) = rowAt v ((i 0).val * 10 + 1) := fun v => ld_row v i 1 _
  have r2 : ∀ v : Vec F S70x128 .f32, View.ld v (Rect.unit (s := S70x128) (k0_off1 i 2#32) S1x128.size (k0_off1_inb i 2)) = rowAt v ((i 0).val * 10 + 2) := fun v => ld_row v i 2 _
  have r3 : ∀ v : Vec F S70x128 .f32, View.ld v (Rect.unit (s := S70x128) (k0_off1 i 3#32) S1x128.size (k0_off1_inb i 3)) = rowAt v ((i 0).val * 10 + 3) := fun v => ld_row v i 3 _
  have r4 : ∀ v : Vec F S70x128 .f32, View.ld v (Rect.unit (s := S70x128) (k0_off1 i 4#32) S1x128.size (k0_off1_inb i 4)) = rowAt v ((i 0).val * 10 + 4) := fun v => ld_row v i 4 _
  have r5 : ∀ v : Vec F S70x128 .f32, View.ld v (Rect.unit (s := S70x128) (k0_off1 i 5#32) S1x128.size (k0_off1_inb i 5)) = rowAt v ((i 0).val * 10 + 5) := fun v => ld_row v i 5 _
  have r6 : ∀ v : Vec F S70x128 .f32, View.ld v (Rect.unit (s := S70x128) (k0_off1 i 6#32) S1x128.size (k0_off1_inb i 6)) = rowAt v ((i 0).val * 10 + 6) := fun v => ld_row v i 6 _
  have r7 : ∀ v : Vec F S70x128 .f32, View.ld v (Rect.unit (s := S70x128) (k0_off1 i 7#32) S1x128.size (k0_off1_inb i 7)) = rowAt v ((i 0).val * 10 + 7) := fun v => ld_row v i 7 _
  have r8 : ∀ v : Vec F S70x128 .f32, View.ld v (Rect.unit (s := S70x128) (k0_off1 i 8#32) S1x128.size (k0_off1_inb i 8)) = rowAt v ((i 0).val * 10 + 8) := fun v => ld_row v i 8 _
  have r9 : ∀ v : Vec F S70x128 .f32, View.ld v (Rect.unit (s := S70x128) (k0_off1 i 9#32) S1x128.size (k0_off1_inb i 9)) = rowAt v ((i 0).val * 10 + 9) := fun v => ld_row v i 9 _
  simp only [← r0, ← r1, ← r2, ← r3, ← r4, ← r5, ← r6, ← r7, ← r8, ← r9]
  rfl

/-- The result `y` the last point leaves. -/
theorem canonC_6 (c : Dev nD) (i : grid0.Coords) (arg1 : Memref sig .tc .vmem S200x1536 .bf16) (harg1 : arg1.IsWhole) (arg2 : Memref sig .tc .vmem S1536x1280 .fp8e4m3) (harg2 : arg2.IsWhole) (arg3 : Memref sig .tc .vmem S70x128 .f32) (harg3 : arg3.IsWhole) (arg4 : Memref sig .tc .vmem S70x128 .f32) (harg4 : arg4.IsWhole) (arg5 : Memref sig .tc .vmem S1280x1536 .i8) (harg5 : arg5.IsWhole) (arg6 : Memref sig .tc .vmem S12x128 .f32) (harg6 : arg6.IsWhole) (arg7 : Memref sig .tc .vmem S200x1536 .bf16) (harg7 : arg7.IsWhole) (arg8 : Memref sig .tc .vmem S200x1280 .bf16) (harg8 : arg8.IsWhole) (arg9 : Memref sig .tc .vmem S200x1536 .fp8e4m3) (harg9 : arg9.IsWhole) (arg10 : Memref sig .tc .vmem S1x200 .f32) (harg10 : arg10.IsWhole) (arg11 : Memref sig .tc .vmem S224x1536 .fp8e4m3) (harg11 : arg11.IsWhole) (arg12 : Memref sig .tc .vmem S200x128 .f32) (harg12 : arg12.IsWhole) (arg13 : Memref sig .tc .vmem S200x1536 .f32) (harg13 : arg13.IsWhole) (hc0 : ¬cond0_0 i) (hc1 : cond0_1 i)
    (x0 : Vec F S200x1536 .bf16) (x1 : Vec F S1536x1280 .fp8e4m3) (x2 : Vec F S70x128 .f32) (x3 : Vec F S70x128 .f32) (x4 : Vec F S1280x1536 .i8) (x5 : Vec F S12x128 .f32) (xs0 : Vec F S224x1536 .fp8e4m3) (xs1 : Vec F S200x128 .f32) (xs2 : Vec F S200x1536 .f32) :
    View.canon (kernelRun0_C c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2).1 = yOf (accOf (hOf (i 0).val xs0 xs1 x1 x2 x3) xs2 x4) x5 := by
  unfold kernelRun0_C
  dsimp only
  sl_unfold_words
  have hz : (![0, 0] : Fin 2 → ℕ) = fun _ => 0 := by funext a; fin_cases a <;> rfl
  simp only [View.readAt_eq_ld, harg1.read_unread, harg2.read_unread, harg3.read_unread, harg4.read_unread, harg5.read_unread, harg6.read_unread, harg11.read_unread, harg12.read_unread, harg13.read_unread, View.ld_unit_zero (S := S200x1536) hz, View.ld_unit_zero (S := S1536x1280) hz, View.ld_unit_zero (S := S1280x1536) hz, View.ld_unit_zero (S := S224x1536) hz, View.ld_unit_zero (S := S200x128) hz, View.ld_unit_zero (S := S200x1280) hz]
  unfold accOf hOf
  have r0 : ∀ v : Vec F S70x128 .f32, View.ld v (Rect.unit (s := S70x128) (k0_off1 i 0#32) S1x128.size (k0_off1_inb i 0)) = rowAt v ((i 0).val * 10 + 0) := fun v => ld_row v i 0 _
  have r1 : ∀ v : Vec F S70x128 .f32, View.ld v (Rect.unit (s := S70x128) (k0_off1 i 1#32) S1x128.size (k0_off1_inb i 1)) = rowAt v ((i 0).val * 10 + 1) := fun v => ld_row v i 1 _
  have r2 : ∀ v : Vec F S70x128 .f32, View.ld v (Rect.unit (s := S70x128) (k0_off1 i 2#32) S1x128.size (k0_off1_inb i 2)) = rowAt v ((i 0).val * 10 + 2) := fun v => ld_row v i 2 _
  have r3 : ∀ v : Vec F S70x128 .f32, View.ld v (Rect.unit (s := S70x128) (k0_off1 i 3#32) S1x128.size (k0_off1_inb i 3)) = rowAt v ((i 0).val * 10 + 3) := fun v => ld_row v i 3 _
  have r4 : ∀ v : Vec F S70x128 .f32, View.ld v (Rect.unit (s := S70x128) (k0_off1 i 4#32) S1x128.size (k0_off1_inb i 4)) = rowAt v ((i 0).val * 10 + 4) := fun v => ld_row v i 4 _
  have r5 : ∀ v : Vec F S70x128 .f32, View.ld v (Rect.unit (s := S70x128) (k0_off1 i 5#32) S1x128.size (k0_off1_inb i 5)) = rowAt v ((i 0).val * 10 + 5) := fun v => ld_row v i 5 _
  have r6 : ∀ v : Vec F S70x128 .f32, View.ld v (Rect.unit (s := S70x128) (k0_off1 i 6#32) S1x128.size (k0_off1_inb i 6)) = rowAt v ((i 0).val * 10 + 6) := fun v => ld_row v i 6 _
  have r7 : ∀ v : Vec F S70x128 .f32, View.ld v (Rect.unit (s := S70x128) (k0_off1 i 7#32) S1x128.size (k0_off1_inb i 7)) = rowAt v ((i 0).val * 10 + 7) := fun v => ld_row v i 7 _
  have r8 : ∀ v : Vec F S70x128 .f32, View.ld v (Rect.unit (s := S70x128) (k0_off1 i 8#32) S1x128.size (k0_off1_inb i 8)) = rowAt v ((i 0).val * 10 + 8) := fun v => ld_row v i 8 _
  have r9 : ∀ v : Vec F S70x128 .f32, View.ld v (Rect.unit (s := S70x128) (k0_off1 i 9#32) S1x128.size (k0_off1_inb i 9)) = rowAt v ((i 0).val * 10 + 9) := fun v => ld_row v i 9 _
  simp only [← r0, ← r1, ← r2, ← r3, ← r4, ← r5, ← r6, ← r7, ← r8, ← r9]
  exact y_canon arg13.view _ x5 _ rfl

end Cert.KernelIdeal.Run

end
-- ==== Proof.Run.Frame.lean ====
/- The kernel's proof data at every grid point, its run, and its frame: every run ends, with the arguments unchanged and every semaphore counter at zero. -/
module

public import proofs.«01_k».proof.Proof.Run.Steps
public import Idealize.ShloMosaic.Lib.Claim
public import Idealize.ShloMosaic.Lib.Pipeline.TableIdle

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- Grid point `n`. -/
def pt (n : ℕ) : Fin cfg0.N := ⟨n % 7, lt_of_lt_of_eq (Nat.mod_lt _ (by decide)) N_0.symm⟩

theorem pt_val (t : Fin cfg0.N) : pt t.val = t :=
  Fin.ext (Nat.mod_eq_of_lt (lt_of_lt_of_eq t.isLt N_0))

/-- The activation block. -/
def xB (c : Dev nD) : Vec F S200x1536 .bf16 := iblk m c 0 (pt 0)

/-- The block of hidden values of point `t`. -/
def hAt (c : Dev nD) (t : Fin cfg0.N) : Vec F S200x1280 .bf16 :=
  hOf (grid0.coords t 0).val (xqOf (xB m c)) (sbOf (xB m c)) (iblk m c 1 t) (iblk m c 2 t) (iblk m c 3 t)

/-- The down-projection's accumulator after point `n`. -/
def accAt (c : Dev nD) : ℕ → Vec F S200x1536 .f32
  | 0 => accOf (hAt m c (pt 0)) k0_pay25 (iblk m c 4 (pt 0))
  | n + 1 => accOf (hAt m c (pt (n + 1))) (accAt c n) (iblk m c 4 (pt (n + 1)))

theorem accAt_zero (c : Dev nD) (t : Fin cfg0.N) (h : t.val = 0) :
    accAt m c t.val = accOf (hAt m c t) k0_pay25 (iblk m c 4 t) := by
  have e : pt 0 = t := by rw [← h]; exact pt_val t
  rw [h]; unfold accAt; rw [e]

theorem accAt_pos (c : Dev nD) (t : Fin cfg0.N) (h : t.val ≠ 0) :
    accAt m c t.val = accOf (hAt m c t) (accAt m c (t.val - 1)) (iblk m c 4 t) := by
  obtain ⟨n, hn⟩ : ∃ n, t.val = n + 1 := ⟨t.val - 1, by omega⟩
  have e : pt (n + 1) = t := by rw [← hn]; exact pt_val t
  rw [hn]; show accOf _ (accAt m c n) _ = _; rw [e]; rfl

/-- The scratch before point `n`: at anything before the first, then the padded codes, the spread scales and the accumulator. -/
def PhiS (c : Dev nD) : ℕ → sProp 𝕄
  | 0 => Pipeline.ΦA spec0 c
  | n + 1 => iprop(iprop(owns (c : Thread nD τ) scM0_0 fullShare (xqOf (xB m c)) ∗ owns (c : Thread nD τ) scM0_1 fullShare (sbOf (xB m c)) ∗ owns (c : Thread nD τ) scM0_2 fullShare (accAt m c n)) ∗ (∃ r, prngReg c r))

theorem PhiS_zero (c : Dev nD) (n : ℕ) (hz : n = 0) : PhiS m c n = Pipeline.ΦA spec0 c := by
  subst hz; rfl

theorem PhiS_succ (c : Dev nD) (n : ℕ) :
    PhiS m c (n + 1) = iprop(iprop(owns (c : Thread nD τ) scM0_0 fullShare (xqOf (xB m c)) ∗ owns (c : Thread nD τ) scM0_1 fullShare (sbOf (xB m c)) ∗ owns (c : Thread nD τ) scM0_2 fullShare (accAt m c n)) ∗ (∃ r, prngReg c r)) := rfl

theorem PhiS_pos (c : Dev nD) (n : ℕ) (hz : n ≠ 0) :
    PhiS m c n = iprop(iprop(owns (c : Thread nD τ) scM0_0 fullShare (xqOf (xB m c)) ∗ owns (c : Thread nD τ) scM0_1 fullShare (sbOf (xB m c)) ∗ owns (c : Thread nD τ) scM0_2 fullShare (accAt m c (n - 1))) ∗ (∃ r, prngReg c r)) := by
  cases n with
  | zero => exact absurd rfl hz
  | succ n => rfl

/-! ## The pipeline's proof data -/

/-- What each window's buffer holds after the body at point `t`: an input its block; `y` the accumulator scaled; the
    hidden block; the codes and the scales of the activation block, the same at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => yOf (accAt m c t.val) (iblk m c 5 t)
    | ⟨7, _⟩ => hAt m c t
    | ⟨8, _⟩ => codesOf (xB m c)
    | ⟨9, _⟩ => scalesOf (xB m c)
  Φ t := PhiS m c t.val
  q _ := fullShare
  owed _ := 0

/-- The arrays of the proof data are those the pipeline's region finds. -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = yOf (accAt m c t.val) (iblk m c 5 t) := by dsimp only [dats]
theorem after0_7 (c : Dev nD) (t : Fin cfg0.N) : (dats m 0 c).after 7 t = hAt m c t := by dsimp only [dats]
theorem after0_8 (c : Dev nD) (t : Fin cfg0.N) : (dats m 0 c).after 8 t = codesOf (xB m c) := by dsimp only [dats]
theorem after0_9 (c : Dev nD) (t : Fin cfg0.N) : (dats m 0 c).after 9 t = scalesOf (xB m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Window 8, stored at the first point only, still holds at every later point what that point stored. -/
theorem before0_8 (c : Dev nD) (t : Fin cfg0.N) (ht : t.val ≠ 0) (d) : (dats m 0 c).before 8 t d = codesOf (xB m c) := by
  have hfresh : ∀ t : Fin cfg0.N, t.val ≠ 0 → cfg0.fresh 8 t.val = false := by decide +kernel
  rw [(dats m 0 c).before_out_traj 8 rfl (fun _ _ => rfl) (fun t _ _ _ => by rw [after0_8, after0_8]) t.val t rfl d, hfresh t ht,
    if_neg Bool.false_ne_true, after0_8]

/-- Window 9, stored at the first point only, still holds at every later point what that point stored. -/
theorem before0_9 (c : Dev nD) (t : Fin cfg0.N) (ht : t.val ≠ 0) (d) : (dats m 0 c).before 9 t d = scalesOf (xB m c) := by
  have hfresh : ∀ t : Fin cfg0.N, t.val ≠ 0 → cfg0.fresh 9 t.val = false := by decide +kernel
  rw [(dats m 0 c).before_out_traj 9 rfl (fun _ _ => rfl) (fun t _ _ _ => by rw [after0_9, after0_9]) t.val t rfl d, hfresh t ht,
    if_neg Bool.false_ne_true, after0_9]

/-! ## The body at every point -/

/-- What the body is given at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at the first point. -/
theorem sound_A (c : Dev nD) (t : Fin cfg0.N) (h0 : t.val % 7 = 0) (h1 : ¬ t.val % 7 = 6) :
    bodyPre m c t ⊢ wp frame (wpE (defs₀ (F := F)) Variants.none c none) Set.univ (bodyAt0 t) (fun _ => bodyPost m c t) := by
  have hN : t.val < 7 := lt_of_lt_of_eq t.isLt N_0
  have hz : t.val = 0 := by omega
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8_A t ((hcond0_0 t).mpr h0)], after0_8]
  rw [show (dats m 0 c).leavesExact 9 t = owns (c : Thread nD τ) (ms0_9 t) fullShare ((dats m 0 c).after 9 t) from by
    unfold Dat.leavesExact; rw [liveAt0_9_A t ((hcond0_0 t).mpr h0)], after0_9]
  rw [PhiS_castSucc m c t, PhiS_zero m c _ hz, PhiA0_eq]
  have hx : iblk m c 0 t = xB m c := by rw [xB, show pt 0 = t by rw [← hz]; exact pt_val t]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  iintro ⟨H0, H1, H2, H3, H4, H5, H6, ⟨%e7, H7⟩, ⟨%e8, H8⟩, ⟨%e9, H9⟩, ⟨%es0, HS0⟩, ⟨%es1, HS1⟩, ⟨%es2, HS2⟩⟩
  isplitl [HS0 HS1 HS2 Hg]
  · isplitl [HS0 HS1 HS2]
    · isplitl [HS0]
      · unfold owns; iexists _; isplitr
        swap; · iexact HS0
        ipureintro; exact (View.read_writes_eq_canon _ _ _ (View.cover_of_wholeMem (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).2.2.2.2.1 (by sl_whole_mem))).trans ((canonA_s0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).trans (by rw [hx]))
      isplitl [HS1]
      · unfold owns; iexists _; isplitr
        swap; · iexact HS1
        ipureintro; exact (View.read_writes_eq_canon _ _ _ (View.cover_of_tiledL (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).2.2.2.2.2.1 S200x128.size (by sl_kernel_rfl))).trans ((canonA_s1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).trans (by rw [hx]))
      unfold owns; iexists _; isplitr
      swap; · iexact HS2
      ipureintro; exact (View.read_writes_eq_canon _ _ _ (View.cover_of_wholeMem (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).2.2.2.2.2.2.1 (by sl_whole_mem))).trans ((canonA_s2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).trans (by rw [accAt_zero m c t hz, hx]; rfl))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]
  · unfold owns; iexists _; isplitr
    swap; · iexact H7
    ipureintro; exact (View.read_writes_eq_canon _ _ _ (View.cover_of_tiledL (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).2.1 S200x1280.size (by sl_kernel_rfl))).trans ((canonA_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).trans (by rw [hx]; rfl))
  isplitl [H8]
  · unfold owns; iexists _; isplitr
    swap; · iexact H8
    ipureintro; exact (View.read_writes_eq_canon _ _ _ (View.cover_of_tiledL (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).2.2.1 S200x1536.size (by sl_kernel_rfl))).trans ((canonA_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).trans (by rw [hx]))
  unfold owns; iexists _; isplitr
  swap; · iexact H9
  ipureintro; exact (View.read_writes_eq_canon _ _ _ (View.cover_of_tiledL (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).2.2.2.1 S1x200.size (by sl_kernel_rfl))).trans ((canonA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) ((hcond0_0 t).mpr h0) (fun h => h1 ((hcond0_1 t).mp h)) (iblk m c 0 t) (iblk m c 1 t) (iblk m c 2 t) (iblk m c 3 t) (iblk m c 4 t) (iblk m c 5 t)).trans (by rw [hx]))

set_option maxHeartbeats 4000000 in
/-- The body at a middle point. -/
theorem sound_B (c : Dev nD) (t : Fin cfg0.N) (h0 : ¬ t.val % 7 = 0) (h1 : ¬ t.val % 7 = 6) :
    bodyPre m c t ⊢ wp frame (wpE (defs₀ (F := F)) Variants.none c none) Set.univ (bodyAt0 t) (fun _ => bodyPost m c t) := by
  have hN : t.val < 7 := lt_of_lt_of_eq t.isLt N_0
  have hz : t.val ≠ 0 := by omega
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
  rw [show (dats m 0 c).leavesExact 7 t = owns (c : Thread nD τ) (ms0_7 t) fullShare ((dats m 0 c).after 7 t) from by
    unfold Dat.leavesExact; rw [liveAt0_7 t], after0_7]
  rw [Dat.leavesExact_idle (dats m 0 c) 8 t (idleAt0_8 t (fun h => h0 ((hcond0_0 t).mp h))) (noFlush0_8 t (fun h => h1 ((hcond0_1 t).mp h)))]
  rw [Dat.leavesExact_idle (dats m 0 c) 9 t (idleAt0_9 t (fun h => h0 ((hcond0_0 t).mp h))) (noFlush0_9 t (fun h => h1 ((hcond0_1 t).mp h)))]
  rw [PhiS_castSucc m c t, PhiS_pos m c _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (xqOf (xB m c)) (sbOf (xB m c)) (accAt m c (t.val - 1))).2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [H9]; · iexact H9
  isplitl [HS0]; · iexact HS0
  isplitl [HS1]; · iexact HS1
  isplitl [HS2]; · iexact HS2
  iintro ⟨H0, H1, H2, H3, H4, H5, H6, ⟨%e7, H7⟩, H8, H9, HS0, HS1, ⟨%es2, HS2⟩⟩
  isplitl [HS0 HS1 HS2 Hg]
  · isplitl [HS0 HS1 HS2]
    · isplitl [HS0]; · iexact HS0
      isplitl [HS1]; · iexact HS1
      unfold owns; iexists _; isplitr
      swap; · iexact HS2
      ipureintro; exact (View.read_writes_eq_canon _ _ _ (View.cover_of_tiledL (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (xqOf (xB m c)) (sbOf (xB m c)) (accAt m c (t.val - 1))).2.2.2.2.2.2.1 S200x1536.size (by sl_kernel_rfl))).trans ((canonB_s2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (xqOf (xB m c)) (sbOf (xB m c)) (accAt m c (t.val - 1))).trans (by rw [accAt_pos m c t hz]; rfl))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]
  · unfold owns; iexists _; isplitr
    swap; · iexact H7
    ipureintro; exact (View.read_writes_eq_canon _ _ _ (View.cover_of_tiledL (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (xqOf (xB m c)) (sbOf (xB m c)) (accAt m c (t.val - 1))).2.1 S200x1280.size (by sl_kernel_rfl))).trans ((canonB_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (xqOf (xB m c)) (sbOf (xB m c)) (accAt m c (t.val - 1))).trans rfl)
  isplitl [H8]; · iexists _; iexact H8
  iexists _; iexact H9

set_option maxHeartbeats 4000000 in
/-- The body at the last point. -/
theorem sound_C (c : Dev nD) (t : Fin cfg0.N) (h0 : ¬ t.val % 7 = 0) (h1 : t.val % 7 = 6) :
    bodyPre m c t ⊢ wp frame (wpE (defs₀ (F := F)) Variants.none c none) Set.univ (bodyAt0 t) (fun _ => bodyPost m c t) := by
  have hN : t.val < 7 := lt_of_lt_of_eq t.isLt N_0
  have hz : t.val ≠ 0 := by omega
  unfold bodyPre bodyPost bodyAt0
  simp only [before0_0, before0_1, before0_2, before0_3, before0_4, before0_5]
  simp only [before0_8 m c t hz, before0_9 m c t hz]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6_C t (fun h => h0 ((hcond0_0 t).mp h)) ((hcond0_1 t).mpr h1)], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [idleAt0_8 t (fun h => h0 ((hcond0_0 t).mp h)), flush0_8_C t ((hcond0_1 t).mpr h1)], after0_8]
  rw [show (dats m 0 c).leavesExact 9 t = owns (c : Thread nD τ) (ms0_9 t) fullShare ((dats m 0 c).after 9 t) from by
    unfold Dat.leavesExact; rw [idleAt0_9 t (fun h => h0 ((hcond0_0 t).mp h)), flush0_9_C t ((hcond0_1 t).mpr h1)], after0_9]
  rw [PhiS_castSucc m c t, PhiS_pos m c _ hz]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (fun h => h0 ((hcond0_0 t).mp h)) ((hcond0_1 t).mpr h1) (iblk m c 0 t) (iblk m c 1 t) (iblk m c 2 t) (iblk m c 3 t) (iblk m c 4 t) (iblk m c 5 t) (xqOf (xB m c)) (sbOf (xB m c)) (accAt m c (t.val - 1))).2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexact H9
  isplitl [HS0]; · iexact HS0
  isplitl [HS1]; · iexact HS1
  isplitl [HS2]; · iexact HS2
  iintro ⟨H0, H1, H2, H3, H4, H5, ⟨%e6, H6⟩, ⟨%e7, H7⟩, H8, H9, HS0, HS1, ⟨%es2, HS2⟩⟩
  isplitl [HS0 HS1 HS2 Hg]
  · isplitl [HS0 HS1 HS2]
    · isplitl [HS0]; · iexact HS0
      isplitl [HS1]; · iexact HS1
      unfold owns; iexists _; isplitr
      swap; · iexact HS2
      ipureintro; exact (View.read_writes_eq_canon _ _ _ (View.cover_of_tiledL (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (fun h => h0 ((hcond0_0 t).mp h)) ((hcond0_1 t).mpr h1) (iblk m c 0 t) (iblk m c 1 t) (iblk m c 2 t) (iblk m c 3 t) (iblk m c 4 t) (iblk m c 5 t) (xqOf (xB m c)) (sbOf (xB m c)) (accAt m c (t.val - 1))).2.2.2.2.2.2.1 S200x1536.size (by sl_kernel_rfl))).trans ((canonC_s2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (fun h => h0 ((hcond0_0 t).mp h)) ((hcond0_1 t).mpr h1) (iblk m c 0 t) (iblk m c 1 t) (iblk m c 2 t) (iblk m c 3 t) (iblk m c 4 t) (iblk m c 5 t) (xqOf (xB m c)) (sbOf (xB m c)) (accAt m c (t.val - 1))).trans (by rw [accAt_pos m c t hz]; rfl))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact (View.read_writes_eq_canon _ _ _ (View.cover_of_tiledL (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (fun h => h0 ((hcond0_0 t).mp h)) ((hcond0_1 t).mpr h1) (iblk m c 0 t) (iblk m c 1 t) (iblk m c 2 t) (iblk m c 3 t) (iblk m c 4 t) (iblk m c 5 t) (xqOf (xB m c)) (sbOf (xB m c)) (accAt m c (t.val - 1))).1 S200x128.size (by sl_kernel_rfl))).trans ((canonC_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (fun h => h0 ((hcond0_0 t).mp h)) ((hcond0_1 t).mpr h1) (iblk m c 0 t) (iblk m c 1 t) (iblk m c 2 t) (iblk m c 3 t) (iblk m c 4 t) (iblk m c 5 t) (xqOf (xB m c)) (sbOf (xB m c)) (accAt m c (t.val - 1))).trans (by rw [accAt_pos m c t hz]; rfl))
  isplitl [H7]
  · unfold owns; iexists _; isplitr
    swap; · iexact H7
    ipureintro; exact (View.read_writes_eq_canon _ _ _ (View.cover_of_tiledL (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (fun h => h0 ((hcond0_0 t).mp h)) ((hcond0_1 t).mpr h1) (iblk m c 0 t) (iblk m c 1 t) (iblk m c 2 t) (iblk m c 3 t) (iblk m c 4 t) (iblk m c 5 t) (xqOf (xB m c)) (sbOf (xB m c)) (accAt m c (t.val - 1))).2.1 S200x1280.size (by sl_kernel_rfl))).trans ((canonC_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (Memref.whole cc0_scratch0) (Memref.isWhole_whole _) (Memref.whole cc0_scratch1) (Memref.isWhole_whole _) (Memref.whole cc0_scratch2) (Memref.isWhole_whole _) (fun h => h0 ((hcond0_0 t).mp h)) ((hcond0_1 t).mpr h1) (iblk m c 0 t) (iblk m c 1 t) (iblk m c 2 t) (iblk m c 3 t) (iblk m c 4 t) (iblk m c 5 t) (xqOf (xB m c)) (sbOf (xB m c)) (accAt m c (t.val - 1))).trans rfl)
  isplitl [H8]; · iexact H8
  iexact H9

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 7 := lt_of_lt_of_eq t.isLt N_0
  by_cases h0 : t.val % 7 = 0
  · exact sound_A m c t h0 (by omega)
  · by_cases h1 : t.val % 7 = 6
    · exact sound_C m c t h0 h1
    · exact sound_B m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 7 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Run

end
-- ==== Proof.Run.Value.lean ====
/- The four result arrays after the kernel's run, and the blocks its windows stage, read off the arguments. -/
module

public import proofs.«01_k».proof.Proof.Run.Frame
public import Idealize.ShloMosaic.Lib.Pipeline.ValueKit
public import Idealize.ShloMosaic.Lib.Pointwise

@[expose] public section

set_option maxRecDepth 16384

noncomputable section

namespace Cert.KernelIdeal.Run

open Idealize.ShloMosaic Idealize.ShloMosaic.TcCoe Idealize.ShloMosaic.Tactic Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-! ## The result arrays -/

/-- The array of `y` is written back whole at the last point. -/
theorem final6 (c : Dev nD) : (dats m 0 c).arrAt 6 cfg0.N = (yOf (accAt m c 6) (iblk m c 5 (pt 6)) : S200x1536.Idx → Elt F .bf16) := by
  refine (dats m 0 c).arrAt_eq_of_covers 6 _ (by decide +kernel) fun t hf y => ?_
  have ht : t = pt 6 := (by decide +kernel : ∀ t : Fin cfg0.N, (cfg0.win 6).flush t = true → t = pt 6) t hf
  have hi : win0_6.index (pt 6) = ![0, 0] := by decide +kernel
  subst ht
  blk_simp
  rw [after0_6, show (pt 6).val = 6 from rfl]
  refine congrArg (yOf (accAt m c 6) (iblk m c 5 (pt 6))) ?_
  blk_ext [hi]

/-- The array of `h`: each point writes back its own block of 1280 columns. -/
theorem final7 (c : Dev nD) : (dats m 0 c).arrAt 7 cfg0.N
    = (fun i : S200x8960.Idx => hAt m c (pt ((i 1).val / 1280)) (ix2 (i 0) ⟨(i 1).val % 1280, Nat.mod_lt _ (by decide)⟩)) := by
  refine (dats m 0 c).arrAt_eq_of_covers 7 _ (by decide +kernel) fun t hf y => ?_
  blk_simp
  rw [after0_7]
  have hi : win0_7.index t = ![0, t.val] := (by decide +kernel : ∀ t : Fin cfg0.N, win0_7.index t = ![0, t.val]) t
  have hy : (y 1).val < 1280 := (y 1).isLt
  have ht := lt_of_lt_of_eq t.isLt N_0
  have e : pt ((win0_7.index t 1 * 1280 + (y 1).val) / 1280) = t := by
    apply Fin.ext
    show (win0_7.index t 1 * 1280 + (y 1).val) / 1280 % 7 = t.val
    simp only [hi, Matrix.cons_val_one, Matrix.cons_val_zero]
    omega
  rw [e]
  refine congrArg (hAt m c t) ?_
  blk_ext [hi]

/-- The array of codes, written back whole at the last point. -/
theorem final8 (c : Dev nD) : (dats m 0 c).arrAt 8 cfg0.N = (codesOf (xB m c) : S200x1536.Idx → Elt F .fp8e4m3) := by
  refine (dats m 0 c).arrAt_eq_of_covers 8 _ (by decide +kernel) fun t hf y => ?_
  have ht : t = pt 6 := (by decide +kernel : ∀ t : Fin cfg0.N, (cfg0.win 8).flush t = true → t = pt 6) t hf
  have hi : win0_8.index (pt 6) = ![0, 0] := by decide +kernel
  subst ht
  blk_simp
  rw [after0_8]
  refine congrArg (codesOf (xB m c)) ?_
  blk_ext [hi]

/-- The array of scales, written back whole at the last point. -/
theorem final9 (c : Dev nD) : (dats m 0 c).arrAt 9 cfg0.N = (scalesOf (xB m c) : S1x200.Idx → Elt F .f32) := by
  refine (dats m 0 c).arrAt_eq_of_covers 9 _ (by decide +kernel) fun t hf y => ?_
  have ht : t = pt 6 := (by decide +kernel : ∀ t : Fin cfg0.N, (cfg0.win 9).flush t = true → t = pt 6) t hf
  have hi : win0_9.index (pt 6) = ![0, 0] := by decide +kernel
  subst ht
  blk_simp
  rw [after0_9]
  refine congrArg (scalesOf (xB m c)) ?_
  blk_ext [hi]

/-! ## The staged blocks -/

/-- The activation block is the whole argument `x`. -/
theorem x_read (c : Dev nD) (r : Fin 200) (l : Fin 1536) :
    xB m c (ix2 r l) = m ((c : Thread nD τ).loc main_arg0) (ix3 r (0 : Fin 1) l) := by
  have hi : win0_0.index (pt 0) = ![0, 0] := by decide +kernel
  unfold xB
  blk_simp [iblk]
  entry_read
  pointwise
  blk_ext [hi]

/-- Point `t` stages columns `1280 t` to `1280 t + 1279` of `w_up`. -/
theorem wu_read (c : Dev nD) (t : Fin cfg0.N) (d : Fin 1536) (j : Fin 1280) :
    iblk m c 1 t (ix2 d j) = m ((c : Thread nD τ).loc main_arg1) (ix2 d (⟨1280 * t.val + j.val, by have := lt_of_lt_of_eq t.isLt N_0; omega⟩ : Fin 8960)) := by
  have ht : win0_1.index t = ![0, t.val] := (by decide +kernel : ∀ t : Fin cfg0.N, win0_1.index t = ![0, t.val]) t
  blk_ext [iblk, V, ht]

/-- Point `t` stages rows `1280 t` to `1280 t + 1279` of `w_down`. -/
theorem wd_read (c : Dev nD) (t : Fin cfg0.N) (k : Fin 1280) (l : Fin 1536) :
    iblk m c 4 t (ix2 k l) = m ((c : Thread nD τ).loc main_arg4) (ix2 (⟨1280 * t.val + k.val, by have := lt_of_lt_of_eq t.isLt N_0; omega⟩ : Fin 8960) l) := by
  have ht : win0_4.index t = ![t.val, 0] := (by decide +kernel : ∀ t : Fin cfg0.N, win0_4.index t = ![t.val, 0]) t
  blk_ext [iblk, V, ht]

/-- Every point stages the whole of `w_up_scale`, as 70 rows of 128. -/
theorem su_read (c : Dev nD) (t : Fin cfg0.N) (r : Fin 70) (l : Fin 128) :
    iblk m c 2 t (ix2 r l) = m ((c : Thread nD τ).loc main_arg2) (ix1 (⟨128 * r.val + l.val, by omega⟩ : Fin 8960)) := by
  have hi : win0_2.index t = ![0, 0] := (by decide +kernel : ∀ t : Fin cfg0.N, win0_2.index t = ![0, 0]) t
  blk_simp [iblk]
  entry_read
  pointwise
  blk_ext [hi]

/-- Every point stages the whole of `b_up`, as 70 rows of 128. -/
theorem b_read (c : Dev nD) (t : Fin cfg0.N) (r : Fin 70) (l : Fin 128) :
    iblk m c 3 t (ix2 r l) = m ((c : Thread nD τ).loc main_arg3) (ix1 (⟨128 * r.val + l.val, by omega⟩ : Fin 8960)) := by
  have hi : win0_3.index t = ![0, 0] := (by decide +kernel : ∀ t : Fin cfg0.N, win0_3.index t = ![0, 0]) t
  blk_simp [iblk]
  entry_read
  pointwise
  blk_ext [hi]

/-- Every point stages the whole of `w_down_scale`, as 12 rows of 128. -/
theorem sd_read (c : Dev nD) (t : Fin cfg0.N) (r : Fin 12) (l : Fin 128) :
    iblk m c 5 t (ix2 r l) = m ((c : Thread nD τ).loc main_arg5) (ix1 (⟨128 * r.val + l.val, by omega⟩ : Fin 1536)) := by
  have hi : win0_5.index t = ![0, 0] := (by decide +kernel : ∀ t : Fin cfg0.N, win0_5.index t = ![0, 0]) t
  blk_simp [iblk]
  entry_read
  pointwise
  blk_ext [hi]

/-! ## The run, read -/

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- Every run of the kernel ends with the four result arrays at these contents, the arguments unchanged. -/
theorem run : θ_run defs (onTc (τ := τ) (main (F := F))) ⟨m, fun _ => 0, ρ⟩ fun r => ∀ c : Dev nD,
      r.2.mem ((c : Thread nD τ).loc main_v4_0) = (yOf (accAt m c 6) (iblk m c 5 (pt 6)) : S200x1536.Idx → Elt F .bf16)
      ∧ r.2.mem ((c : Thread nD τ).loc main_v4_1) = (fun i : S200x8960.Idx => hAt m c (pt ((i 1).val / 1280)) (ix2 (i 0) ⟨(i 1).val % 1280, Nat.mod_lt _ (by decide)⟩))
      ∧ r.2.mem ((c : Thread nD τ).loc main_v4_2) = (codesOf (xB m c) : S200x1536.Idx → Elt F .fp8e4m3)
      ∧ r.2.mem ((c : Thread nD τ).loc main_v4_3) = (scalesOf (xB m c) : S1x200.Idx → Elt F .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (final6 m c),
      ((h c).1 7).trans (final7 m c),
      ((h c).1 8).trans (final8 m c),
      ((h c).1 9).trans (final9 m c),
      kept_main_arg0 m r h c,
      kept_main_arg1 m r h c,
      kept_main_arg2 m r h c,
      kept_main_arg3 m r h c,
      kept_main_arg4 m r h c,
      kept_main_arg5 m r h c⟩)
    (run_main m ρ)

end Cert.KernelIdeal.Run

end
-- ==== Proof.Eq.Scale.lean ====
/- The power-of-two scale over the extended reals: the kernel's exponent field, found by counting the powers of two at or
   below a value, against the reference's `floor (log s / log 2) + 1`. -/
module

public import Idealize.ShloMosaic.PureOps.Ideal.Laws
public import Idealize.ShloMosaic.Lib.Pointwise

@[expose] public section

set_option maxRecDepth 16384

noncomputable section

namespace Cert.Scale

open Idealize.ShloMosaic

/-- The word whose exponent field is `k` and whose other bits are clear. -/
def word (k : BitVec 32) : BitVec 32 := IntOp.shli .vector k 23#32

/-- The exponent field of a value: how many of the 256 words with an empty mantissa lie at or below it, less one. -/
def field (s : EReal) : BitVec 32 :=
  IntOp.andi (IntOp.subi (Finset.univ.fold IntOp.addi 0#32 fun k : Fin 256 =>
    Scalar.select (Ideal.cmp .oge s (Ideal.ofBits .f32 (word (BitVec.ofNat 32 k.val)))) 1#32 0#32) 1#32) 255#32

/-- The kernel's exponent: `field - 126`, zero at the two extreme fields. -/
def expo (s : EReal) : BitVec 32 :=
  Scalar.select (IntOp.ori (IntOp.cmpi .eq (field s) 0#32) (IntOp.cmpi .eq (field s) 255#32)) 0#32 (IntOp.subi (field s) 126#32)

/-- The kernel's scale. -/
def scale (s : EReal) : EReal := Ideal.ofBits .f32 (word (IntOp.addi 127#32 (expo s)))

/-- The kernel's inverse scale. -/
def inv (s : EReal) : EReal := Ideal.ofBits .f32 (word (IntOp.subi 127#32 (expo s)))

/-- The reference's exponent. -/
def refExpo (s : EReal) : EReal :=
  Scalar.select (IntOp.ori (Ideal.cmp .oeq s 0) (Ideal.cmp .oeq s ⊤)) (0 : EReal)
    (Ideal.liftRound Int.floor (Ideal.div (Ideal.log s) ((Real.log 2 : ℝ) : EReal)) + 1)

/-- The three fields of the word with exponent field `k`. -/
theorem word_fields : ∀ k : Fin 256, ((word (BitVec.ofNat 32 k.val)).extractLsb' 31 1 == 1#1) = false
    ∧ ((word (BitVec.ofNat 32 k.val)).extractLsb' 23 8).toNat = k.val ∧ ((word (BitVec.ofNat 32 k.val)).extractLsb' 0 23).toNat = 0 := by
  unfold word IntOp.shli
  decide +kernel

/-- A word with an empty mantissa and exponent field `k`, neither extreme, is `2 ^ (k - 127)`. -/
theorem ofBits_word (k : ℕ) (h0 : 0 < k) (h1 : k < 255) :
    Ideal.ofBits .f32 (word (BitVec.ofNat 32 k)) = (((2 : ℝ) ^ ((k : ℤ) - 127) : ℝ) : EReal) := by
  obtain ⟨hs, he, hf⟩ := word_fields ⟨k, by omega⟩
  dsimp only at hs he hf
  simp only [Ideal.ofBits, Ideal.ieee, hs, he, hf]
  rw [if_neg (by omega), if_neg (by omega)]
  refine congrArg (fun r : ℝ => (r : EReal)) ?_
  have h2 : (2 : ℝ) ≠ 0 := two_ne_zero
  simp only [Bool.false_eq_true, if_false, one_mul, Nat.add_zero]
  rw [show (((2 ^ 23 : ℕ)) : ℝ) = (2 : ℝ) ^ (23 : ℤ) by norm_num, ← zpow_add₀ h2]
  refine congrArg (fun z : ℤ => (2 : ℝ) ^ z) ?_
  norm_num

theorem ofBits_word_zero : Ideal.ofBits .f32 (word (BitVec.ofNat 32 0)) = 0 := by
  obtain ⟨hs, he, hf⟩ := word_fields 0
  simp only [Fin.val_zero] at hs he hf
  simp only [Ideal.ofBits, Ideal.ieee, hs, he, hf]
  norm_num

theorem ofBits_word_top : Ideal.ofBits .f32 (word (BitVec.ofNat 32 255)) = ⊤ := by
  obtain ⟨hs, he, hf⟩ := word_fields 255
  rw [show ((255 : Fin 256) : ℕ) = 255 from rfl] at hs he hf
  simp only [Ideal.ofBits, Ideal.ieee, hs, he, hf]
  norm_num

/-- The count of the `k` up to `N` is `N + 1`. -/
theorem fold_count (N : ℕ) (hN : N < 256) (p : Fin 256 → BitVec 1) (hp : ∀ k, p k = BitVec.ofBool (decide (k.val ≤ N))) :
    (Finset.univ.fold IntOp.addi 0#32 fun k : Fin 256 => Scalar.select (p k) 1#32 0#32) = BitVec.ofNat 32 (N + 1) := by
  have e : (fun k : Fin 256 => Scalar.select (p k) 1#32 0#32) = fun k => if k.val ≤ N then 1#32 else 0#32 := by
    funext k
    rw [hp k]
    by_cases h : k.val ≤ N <;> simp [h, Scalar.select]
  rw [e]
  have := (by decide +kernel : ∀ N : Fin 256, (Finset.univ.fold IntOp.addi 0#32 fun k : Fin 256 => if k.val ≤ N.val then 1#32 else 0#32) = BitVec.ofNat 32 (N.val + 1))
  exact this ⟨N, hN⟩

/-- The field of a value at or above the powers up to `N` and below the later ones is `N`. -/
theorem field_eq (s : EReal) (N : ℕ) (hN : N < 256)
    (h : ∀ k : Fin 256, Ideal.ofBits .f32 (word (BitVec.ofNat 32 k.val)) ≤ s ↔ k.val ≤ N) : field s = BitVec.ofNat 32 N := by
  unfold field
  rw [fold_count N hN _ (fun k => by simp only [Ideal.cmp]; rw [decide_eq_decide.mpr (h k)])]
  exact (by decide +kernel : ∀ N : Fin 256, IntOp.andi (IntOp.subi (BitVec.ofNat 32 (N.val + 1)) 1#32) 255#32 = BitVec.ofNat 32 N.val) ⟨N, hN⟩

theorem word_nonneg (k : Fin 256) (hk : 0 < k.val) : 0 < Ideal.ofBits .f32 (word (BitVec.ofNat 32 k.val)) := by
  by_cases h : k.val < 255
  · rw [ofBits_word _ hk h]; exact EReal.coe_pos.mpr (zpow_pos (by norm_num) _)
  · have : k.val = 255 := by omega
    rw [this, ofBits_word_top]; exact EReal.coe_lt_top 0

/-- At zero the field is zero. -/
theorem field_zero : field 0 = 0#32 :=
  field_eq 0 0 (by norm_num) fun k => by
    by_cases hk : k.val = 0
    · rw [hk, ofBits_word_zero]; simp
    · have := word_nonneg k (by omega)
      constructor
      · intro h; exact absurd this (not_lt.mpr h)
      · intro h; omega

/-- At infinity the field is 255. -/
theorem field_top : field ⊤ = 255#32 :=
  field_eq ⊤ 255 (by norm_num) fun k => by simp; omega

/-- The field of a normal value is its floored logarithm, biased. -/
theorem field_coe (r : ℝ) (n : ℤ) (hn : -126 ≤ n) (hn' : n ≤ 127) (h1 : (2 : ℝ) ^ n ≤ r) (h2 : r < (2 : ℝ) ^ (n + 1)) :
    field (r : EReal) = BitVec.ofNat 32 (n + 127).toNat :=
  field_eq _ _ (by omega) fun k => by
    have h0 : (0 : ℝ) < r := lt_of_lt_of_le (zpow_pos (by norm_num) _) h1
    by_cases hk : k.val = 0
    · rw [hk, ofBits_word_zero]
      have : (0 : EReal) ≤ (r : EReal) := by exact_mod_cast h0.le
      simp [this]
    by_cases hk' : k.val = 255
    · rw [hk', ofBits_word_top]
      simp; omega
    · rw [ofBits_word _ (by omega) (by have := k.isLt; omega), EReal.coe_le_coe_iff]
      have one : (1 : ℝ) < 2 := by norm_num
      constructor
      · intro h
        have := (zpow_lt_zpow_iff_right₀ one).mp (lt_of_le_of_lt h h2)
        omega
      · intro h
        exact le_trans ((zpow_le_zpow_iff_right₀ one).mpr (by omega)) h1

/-- From field `N` in range the exponent's two words: the scale's and its inverse's. -/
theorem expo_words : ∀ N : Fin 254, 0 < N.val →
    IntOp.addi 127#32 (Scalar.select (IntOp.ori (IntOp.cmpi .eq (BitVec.ofNat 32 N.val) 0#32) (IntOp.cmpi .eq (BitVec.ofNat 32 N.val) 255#32)) 0#32 (IntOp.subi (BitVec.ofNat 32 N.val) 126#32)) = BitVec.ofNat 32 (N.val + 1)
    ∧ IntOp.subi 127#32 (Scalar.select (IntOp.ori (IntOp.cmpi .eq (BitVec.ofNat 32 N.val) 0#32) (IntOp.cmpi .eq (BitVec.ofNat 32 N.val) 255#32)) 0#32 (IntOp.subi (BitVec.ofNat 32 N.val) 126#32)) = BitVec.ofNat 32 (253 - N.val) := by
  decide +kernel

/-- The reference's exponent of a normal value. -/
theorem refExpo_coe (r : ℝ) (n : ℤ) (h1 : (2 : ℝ) ^ n ≤ r) (h2 : r < (2 : ℝ) ^ (n + 1)) :
    refExpo (r : EReal) = (((n + 1 : ℤ) : ℝ) : EReal) := by
  have h0 : (0 : ℝ) < r := lt_of_lt_of_le (zpow_pos (by norm_num) _) h1
  have hl : (0 : ℝ) < Real.log 2 := Real.log_pos (by norm_num)
  have c1 : Ideal.cmp .oeq (r : EReal) 0 = 0#1 := by
    have : ¬ ((r : EReal) = 0) := by exact_mod_cast h0.ne'
    simp [Ideal.cmp, this]
  have c2 : Ideal.cmp .oeq (r : EReal) ⊤ = 0#1 := by simp [Ideal.cmp]
  unfold refExpo
  rw [c1, c2, Ideal.log_coe, if_neg (not_le.mpr h0), Ideal.div, if_neg (by exact_mod_cast hl.ne'), ← EReal.coe_inv, ← EReal.coe_mul, Ideal.liftRound_coe]
  have hf : ⌊Real.log r * (Real.log 2)⁻¹⌋ = n := by
    rw [← div_eq_mul_inv, Int.floor_eq_iff, le_div_iff₀ hl, div_lt_iff₀ hl]
    constructor
    · rw [← Real.log_zpow]; exact Real.log_le_log (zpow_pos (by norm_num) _) h1
    · rw [show ((n : ℝ) + 1) = ((n + 1 : ℤ) : ℝ) by push_cast; ring, ← Real.log_zpow]; exact Real.log_lt_log h0 h2
  rw [hf]
  show (((n : ℤ) : ℝ) : EReal) + 1 = _
  rw [show (1 : EReal) = ((1 : ℝ) : EReal) from rfl, ← EReal.coe_add]
  push_cast; rfl

theorem refExpo_zero : refExpo 0 = 0 := by
  unfold refExpo; simp [Ideal.cmp, Scalar.select, IntOp.ori]

theorem refExpo_top : refExpo ⊤ = 0 := by
  unfold refExpo; simp [Ideal.cmp, Scalar.select, IntOp.ori]

/-- What the precondition says of one row's scaled maximum. -/
def Ok (s : EReal) : Prop := (s = 0 ∨ (((2 : ℝ) ^ (-126 : ℤ) : ℝ) : EReal) ≤ s) ∧ (s < (((2 : ℝ) ^ (126 : ℤ) : ℝ) : EReal) ∨ s = ⊤)

theorem one_pow : Ideal.ofBits .f32 (word (BitVec.ofNat 32 127)) = 1 := by
  rw [ofBits_word 127 (by norm_num) (by norm_num)]; norm_num

theorem exp2_zero : Ideal.exp2 0 = 1 := by
  rw [show (0 : EReal) = ((0 : ℝ) : EReal) from rfl, Ideal.exp2_coe]
  show ((Real.rpow 2 0 : ℝ) : EReal) = 1
  rw [show Real.rpow 2 0 = (1 : ℝ) from Real.rpow_zero 2]; rfl

theorem exp2_int (k : ℤ) : Ideal.exp2 (((k : ℤ) : ℝ) : EReal) = (((2 : ℝ) ^ k : ℝ) : EReal) := by
  rw [Ideal.exp2_coe]
  exact congrArg _ (Real.rpow_intCast 2 k)

/-- THE SCALE: the kernel's words are the reference's powers of two. -/
theorem scale_inv_eq (s : EReal) (h : Ok s) : scale s = Ideal.exp2 (refExpo s) ∧ inv s = Ideal.exp2 (0 - refExpo s) := by
  obtain ⟨hlo, hhi⟩ := h
  rcases hlo with rfl | hlo
  · rw [refExpo_zero, sub_zero, exp2_zero]
    unfold scale inv expo
    rw [field_zero]
    exact ⟨one_pow, one_pow⟩
  rcases hhi with hhi | rfl
  · have hb : s ≠ ⊥ := by rintro rfl; exact absurd hlo (by simp)
    have ht : s ≠ ⊤ := by rintro rfl; exact absurd hhi (by simp)
    lift s to ℝ using ⟨ht, hb⟩
    rw [EReal.coe_le_coe_iff] at hlo
    rw [EReal.coe_lt_coe_iff] at hhi
    have h0 : (0 : ℝ) < s := lt_of_lt_of_le (zpow_pos (by norm_num) _) hlo
    obtain ⟨n, h1, h2⟩ := exists_mem_Ico_zpow h0 (by norm_num : (1 : ℝ) < 2)
    have one : (1 : ℝ) < 2 := by norm_num
    have hn : -126 ≤ n := by
      have := (zpow_lt_zpow_iff_right₀ one).mp (lt_of_le_of_lt hlo h2); omega
    have hn' : n < 126 := (zpow_lt_zpow_iff_right₀ one).mp (lt_of_le_of_lt h1 hhi)
    rw [refExpo_coe s n h1 h2, exp2_int, zero_sub, ← EReal.coe_neg, ← Int.cast_neg, exp2_int]
    unfold scale inv expo
    rw [field_coe s n hn (by omega) h1 h2]
    obtain ⟨e1, e2⟩ := expo_words ⟨(n + 127).toNat, by omega⟩ (by show 0 < (n + 127).toNat; omega)
    dsimp only at e1 e2
    rw [e1, e2, ofBits_word _ (by omega) (by omega), ofBits_word _ (by omega) (by omega)]
    constructor <;> congr 2 <;> omega
  · rw [refExpo_top, sub_zero, exp2_zero]
    unfold scale inv expo
    rw [field_top]
    exact ⟨one_pow, one_pow⟩

end Cert.Scale

end
-- ==== Proof.Eq.Row.lean ====
/- The scaled maximum of a row, in the form both programs compute it. -/
module

public import proofs.«01_k».proof.Proof.Eq.Scale
public import Idealize.ShloMosaic.Lib.Pointwise

@[expose] public section

set_option maxRecDepth 16384

noncomputable section

namespace Cert.Scale

open Idealize.ShloMosaic

/-- The scaled maximum of row `r`: the greatest magnitude in the row, times the constant. -/
def rowS (x : Fin 200 → Fin 1536 → EReal) (r : Fin 200) : EReal :=
  (Finset.univ.fold max (Ideal.ofBits .f32 0xFF800000#32) fun k : Fin 1536 => FloatOps.absf (F := Idealize.ShloMosaic.Ideal) (φ := .f32) (x r k))
    * Ideal.ofBits .f32 0x3B124925#32

/-- The exponent field, with the comparison written as an order relation. -/
theorem field_if (s : EReal) : field s = IntOp.andi (IntOp.subi (Finset.univ.fold IntOp.addi 0#32 fun k : Fin 256 =>
    if Ideal.ofBits .f32 (IntOp.shli ArithUnit.vector (BitVec.ofNat 32 k.val) 23#32) ≤ s then 1#32 else 0#32) 1#32) 255#32 := by
  unfold field
  have e : (fun k : Fin 256 => Scalar.select (Ideal.cmp .oge s (Ideal.ofBits .f32 (word (BitVec.ofNat 32 k.val)))) 1#32 0#32)
      = fun k : Fin 256 => if Ideal.ofBits .f32 (IntOp.shli ArithUnit.vector (BitVec.ofNat 32 k.val) 23#32) ≤ s then 1#32 else 0#32 := by
    funext k
    unfold word
    by_cases h : Ideal.ofBits .f32 (IntOp.shli ArithUnit.vector (BitVec.ofNat 32 k.val) 23#32) ≤ s
    · simp [h, Scalar.select, Ideal.cmp]
    · simp [h, Scalar.select, Ideal.cmp]
  rw [e]

end Cert.Scale

end
-- ==== Proof.Eq.KRows.lean ====
/- The kernel's quantizer row by row: the scale, its inverse, the codes and the written scales, in the words of Eq/Scale. -/
module

public import proofs.«01_k».proof.Proof.Run.Frame
public import proofs.«01_k».proof.Proof.Eq.Row
public import Idealize.ShloMosaic.Lib.Pipeline.ValueKit
public import Idealize.ShloMosaic.Lib.Pointwise

@[expose] public section

set_option maxRecDepth 16384

noncomputable section

namespace Cert.KernelIdeal.Rows

open Idealize.ShloMosaic Idealize.ShloMosaic.TcCoe Idealize.ShloMosaic.Tactic
open Cert.KernelIdeal Cert.KernelIdeal.Gen Cert.KernelIdeal.Run

/-- The kernel's exponent at row `r`. -/
theorem pay7_read (x : Vec Ideal S200x1536 .bf16) (r : Fin 200) :
    k0_pay7 x (ix2 r (0 : Fin 1)) = Scale.expo (Scale.rowS (fun r k => x (ix2 r k)) r) := by
  pointwise [k0_pay7, k0_pay6]
  unfold Scale.expo
  rw [Scale.field_if]
  rfl

/-- The kernel's scale at row `r`. -/
theorem pay8_read (x : Vec Ideal S200x1536 .bf16) (r : Fin 200) :
    k0_pay8 x (ix2 r (0 : Fin 1)) = Scale.scale (Scale.rowS (fun r k => x (ix2 r k)) r) := by
  pointwise [k0_pay8]
  rw [pay7_read]
  rfl

/-- The kernel's inverse scale at row `r`. -/
theorem pay9_read (x : Vec Ideal S200x1536 .bf16) (r : Fin 200) :
    k0_pay9 x (ix2 r (0 : Fin 1)) = Scale.inv (Scale.rowS (fun r k => x (ix2 r k)) r) := by
  pointwise [k0_pay9]
  rw [pay7_read]
  rfl

/-- A code of row `r`. -/
theorem codes_read (x : Vec Ideal S200x1536 .bf16) (r : Fin 200) (l : Fin 1536) :
    codesOf x (ix2 r l) = min (Ideal.ofBits .f32 0x43E00000#32) (max (Ideal.ofBits .f32 0xC3E00000#32)
      (x (ix2 r l) * Scale.inv (Scale.rowS (fun r k => x (ix2 r k)) r))) := by
  rw [← pay9_read]
  pointwise [codesOf, k0_pay19, k0_pay6]

/-- The written scale of row `r`. -/
theorem scales_read (x : Vec Ideal S200x1536 .bf16) (r : Fin 200) :
    scalesOf x (ix2 (0 : Fin 1) r) = Scale.scale (Scale.rowS (fun r k => x (ix2 r k)) r) := by
  rw [← pay8_read]
  pointwise [scalesOf, k0_pay24, k0_pay22]

/-- The scale, spread over 128 lanes. -/
theorem sb_read (x : Vec Ideal S200x1536 .bf16) (r : Fin 200) (l : Fin 128) :
    sbOf x (ix2 r l) = Scale.scale (Scale.rowS (fun r k => x (ix2 r k)) r) := by
  rw [← pay8_read]
  pointwise [sbOf, k0_pay23, k0_pay22]

end Cert.KernelIdeal.Rows

end
-- ==== Proof.Eq.KHidden.lean ====
/- The kernel's hidden block and its accumulator, read at an index. -/
module

public import proofs.«01_k».proof.Proof.Run.Frame
public import Idealize.ShloMosaic.Lib.Pipeline.ValueKit
public import Idealize.ShloMosaic.Lib.Pointwise

@[expose] public section

set_option maxRecDepth 16384

noncomputable section

namespace Cert.KernelIdeal.Rows

open Idealize.ShloMosaic Idealize.ShloMosaic.TcCoe Idealize.ShloMosaic.Tactic
open Cert.KernelIdeal Cert.KernelIdeal.Gen Cert.KernelIdeal.Run

/-- The up-projection's product at row `r`, column `j`. -/
theorem up_read (xq : Vec Ideal S224x1536 .fp8e4m3) (wu : Vec Ideal S1536x1280 .fp8e4m3) (r : Fin 200) (j : Fin 1280) :
    k0_pay26 xq wu (ix2 r j) = ∑ k : Fin 1536, xq (ix2 (⟨r.val, by omega⟩ : Fin 224) k) * wu (ix2 k j) := by
  pointwise [k0_pay26]

/-- A row of a per-column operand, read at a lane. -/
theorem rowAt_read (v : Vec Ideal S70x128 .f32) (k : ℕ) (l : Fin 128) :
    rowAt v k (ix2 (0 : Fin 1) l) = v (ix2 (⟨k % 70, Nat.mod_lt _ (by decide)⟩ : Fin 70) l) := by
  unfold rowAt
  refine congrArg v (funext fun a => ?_)
  match a with
  | ⟨0, _⟩ => rfl
  | ⟨1, _⟩ => rfl

/-- A case split whose branches both equal `x`. -/
theorem dite_eq_of {α : Type} {p : Prop} [Decidable p] {a : p → α} {b : ¬ p → α} {x : α} (ha : ∀ h, a h = x) (hb : ∀ h, b h = x) :
    dite p a b = x := by
  by_cases h : p
  · rw [dif_pos h]; exact ha h
  · rw [dif_neg h]; exact hb h

/-- One lane of one tile: column `q` of the product, lane `l`, row `k` of the per-column operands. -/
theorem lane_eq (n : ℕ) (xq : Vec Ideal S224x1536 .fp8e4m3) (sb : Vec Ideal S200x128 .f32) (wu : Vec Ideal S1536x1280 .fp8e4m3)
    (su b : Vec Ideal S70x128 .f32) (S : Fin 200 → EReal) (SU B : Fin 8960 → EReal)
    (hS : ∀ r l, sb (ix2 r l) = S r)
    (hSU : ∀ (r : Fin 70) (l : Fin 128), su (ix2 r l) = SU ⟨128 * r.val + l.val, by omega⟩)
    (hB : ∀ (r : Fin 70) (l : Fin 128), b (ix2 r l) = B ⟨128 * r.val + l.val, by omega⟩)
    (r : Fin 200) (j : Fin 1280) {hj : 1280 * n + j.val < 8960} (q : Fin 1280) (l : Fin 128) (k : ℕ) (hq : q.val = j.val)
    (hk : 128 * (k % 70) + l.val = 1280 * n + j.val) :
    max (k0_pay26 xq wu (ix2 r q) * sb (ix2 r l) * rowAt su k (ix2 (0 : Fin 1) l) + rowAt b k (ix2 (0 : Fin 1) l)) 0
      = max (k0_pay26 xq wu (ix2 r j) * S r * SU ⟨1280 * n + j.val, hj⟩ + B ⟨1280 * n + j.val, hj⟩) 0 := by
  obtain rfl : q = j := Fin.ext hq
  have e : (⟨128 * (k % 70) + l.val, by omega⟩ : Fin 8960) = ⟨1280 * n + q.val, hj⟩ := Fin.ext hk
  rw [hS, rowAt_read, rowAt_read, hSU, hB]
  exact congrArg (fun z => max (k0_pay26 xq wu (ix2 r q) * S r * SU z + B z) 0) e

set_option maxHeartbeats 2000000 in
/-- The hidden value at row `r`, column `j` of block `n`: product, two scales, bias, cut at zero. -/
theorem h_read (n : ℕ) (hn : n < 7) (xq : Vec Ideal S224x1536 .fp8e4m3) (sb : Vec Ideal S200x128 .f32) (wu : Vec Ideal S1536x1280 .fp8e4m3)
    (su b : Vec Ideal S70x128 .f32) (S : Fin 200 → EReal) (SU B : Fin 8960 → EReal)
    (hS : ∀ r l, sb (ix2 r l) = S r)
    (hSU : ∀ (r : Fin 70) (l : Fin 128), su (ix2 r l) = SU ⟨128 * r.val + l.val, by omega⟩)
    (hB : ∀ (r : Fin 70) (l : Fin 128), b (ix2 r l) = B ⟨128 * r.val + l.val, by omega⟩)
    (r : Fin 200) (j : Fin 1280) :
    hOf n xq sb wu su b (ix2 r j) = max (k0_pay26 xq wu (ix2 r j) * S r * SU ⟨1280 * n + j.val, by omega⟩ + B ⟨1280 * n + j.val, by omega⟩) 0 := by
  pointwise [hOf, k0_pay37, k0_pay27, k0_pay28, k0_pay29, k0_pay30, k0_pay31, k0_pay32, k0_pay33, k0_pay34, k0_pay35, k0_pay36]
  repeat' refine dite_eq_of (fun h => ?_) (fun h => ?_)
  all_goals refine lane_eq n xq sb wu su b S SU B hS hSU hB r j _ _ _ ?_ ?_
  all_goals dsimp only
  all_goals omega

/-- The accumulator after one more block, at row `r`, column `l`. -/
theorem acc_read (h : Vec Ideal S200x1280 .bf16) (acc : Vec Ideal S200x1536 .f32) (wd : Vec Ideal S1280x1536 .i8) (r : Fin 200) (l : Fin 1536) :
    accOf h acc wd (ix2 r l) = acc (ix2 r l) + ∑ k : Fin 1280, h (ix2 r k) * FloatOps.sitofp (F := Ideal) .bf16 (wd (ix2 k l)) := by
  pointwise [accOf, k0_pay1]

/-- The starting accumulator is zero. -/
theorem acc0_read (r : Fin 200) (l : Fin 1536) : (k0_pay25 (F := Idealize.ShloMosaic.Ideal)) (ix2 r l) = 0 := by
  pointwise [k0_pay25]
  trace_state

/-- The padded code buffer holds the codes in rows 0 to 199. -/
theorem xq_read (x : Vec Ideal S200x1536 .bf16) (r : Fin 200) (l : Fin 1536) :
    xqOf x (ix2 (⟨r.val, by omega⟩ : Fin 224) l) = codesOf x (ix2 r l) := by
  unfold xqOf xqPieces
  have e : (Rect.unit (s := S224x1536) ![0, 0] S200x1536.size inb_S224x1536_S200x1536_0_0).emb (ix2 r l) = ix2 (⟨r.val, by omega⟩ : Fin 224) l := by
    funext a
    match a with
    | ⟨0, _⟩ => exact Fin.ext (show 0 + 1 * r.val = r.val by omega)
    | ⟨1, _⟩ => exact Fin.ext (show 0 + 1 * l.val = l.val by omega)
  rw [← e]
  refine (View.canon_cons_emb _ _ _ _).trans ?_
  pointwise [k0_pay21, codesOf]

end Cert.KernelIdeal.Rows

end
-- ==== Proof.Ref.Value.lean ====
/- What the reference's four result arrays hold, read off its arguments. -/
module

public import proofs.«01_k».proof.Proof.Gen.ReferenceIdeal.Value
public import Idealize.ShloMosaic.Lib.Pipeline.ValueKit
public import Idealize.ShloMosaic.Lib.Pointwise

@[expose] public section

set_option maxRecDepth 16384

noncomputable section

namespace Cert.ReferenceIdeal.Ref

open Idealize.ShloMosaic Idealize.ShloMosaic.TcCoe Idealize.ShloMosaic.Tactic Idealize.SL.Sem
open Idealize.ShloMosaic.Pipeline (Dat)
open Cert.ReferenceIdeal Cert.ReferenceIdeal.Gen

variable {F : FTy → Type} [FloatOps F] [Named F]
variable (m : (ℓ : Loc nD τ sig) → Buf (Elt F) ℓ) (ρ : Dev nD → PrngReg)

/-- The single grid point is the first. -/
theorem point_eq (t : Fin cfg0.N) : t = t0_0 := (by decide +kernel : ∀ t : Fin cfg0.N, t = t0_0) t

/-- The activation block, as the body reads it: rows of 1536. -/
abbrev xR (c : Dev nD) : Vec F S200x1536 .bf16 := iblk m c 0 t0_0
/-- The up-projection weights. -/
abbrev wuR (c : Dev nD) : Vec F S1536x8960 .fp8e4m3 := iblk m c 1 t0_0
/-- The up-projection's column scales, as one row. -/
abbrev suR (c : Dev nD) : Vec F S1x8960 .f32 := iblk m c 2 t0_0
/-- The bias, as one row. -/
abbrev bR (c : Dev nD) : Vec F S1x8960 .f32 := iblk m c 3 t0_0
/-- The down-projection weights. -/
abbrev wdR (c : Dev nD) : Vec F S8960x1536 .i8 := iblk m c 4 t0_0
/-- The down-projection's column scales, as one row. -/
abbrev sdR (c : Dev nD) : Vec F S1x1536 .f32 := iblk m c 5 t0_0

/-- The value the two products' stores share, its whole-block loads read away. -/
theorem pay9_eq (x0 : Vec F S200x1536 .bf16) (x1 : Vec F S1536x8960 .fp8e4m3) (x2 : Vec F S1x8960 .f32) (x3 : Vec F S1x8960 .f32)
    (x4 : Vec F S8960x1536 .i8) (x5 : Vec F S1x1536 .f32) : k0_pay9 x0 x1 x2 x3 x4 x5 = k0_pay8 x0 x1 x2 := by
  have hz : (![0, 0] : Fin 2 → ℕ) = fun _ => 0 := by funext a; fin_cases a <;> rfl
  unfold k0_pay9
  rw [View.ld_unit_zero hz, View.ld_unit_zero hz, View.ld_unit_zero hz]

/-- The array of the output, written back whole. -/
theorem final6 (c : Dev nD) : (dats m 0 c).arrAt 6 cfg0.N = (k0_pay2 (k0_pay8 (xR m c) (wuR m c) (suR m c)) (bR m c) (wdR m c) (sdR m c) : S200x1536.Idx → Elt F .bf16) := by
  refine (dats m 0 c).arrAt_eq_of_covers 6 _ (by decide +kernel) fun t hf y => ?_
  have hi : win0_6.index t0_0 = ![0, 0] := by decide +kernel
  obtain rfl := point_eq t
  blk_simp
  rw [after0_6]
  frame_out
  rw [pay9_eq]
  refine congrArg (k0_pay2 (k0_pay8 (xR m c) (wuR m c) (suR m c)) (bR m c) (wdR m c) (sdR m c)) ?_
  blk_ext [hi]

/-- The array of the hidden layer, written back whole. -/
theorem final7 (c : Dev nD) : (dats m 0 c).arrAt 7 cfg0.N = (k0_pay1 (k0_pay8 (xR m c) (wuR m c) (suR m c)) (bR m c) : S200x8960.Idx → Elt F .bf16) := by
  refine (dats m 0 c).arrAt_eq_of_covers 7 _ (by decide +kernel) fun t hf y => ?_
  have hi : win0_7.index t0_0 = ![0, 0] := by decide +kernel
  obtain rfl := point_eq t
  blk_simp
  rw [after0_7]
  frame_out
  rw [pay9_eq]
  refine congrArg (k0_pay1 (k0_pay8 (xR m c) (wuR m c) (suR m c)) (bR m c)) ?_
  blk_ext [hi]

/-- The array of the codes, written back whole. -/
theorem final8 (c : Dev nD) : (dats m 0 c).arrAt 8 cfg0.N = (k0_pay7 (xR m c) : S200x1536.Idx → Elt F .fp8e4m3) := by
  refine (dats m 0 c).arrAt_eq_of_covers 8 _ (by decide +kernel) fun t hf y => ?_
  have hi : win0_8.index t0_0 = ![0, 0] := by decide +kernel
  obtain rfl := point_eq t
  blk_simp
  rw [after0_8]
  frame_out
  refine congrArg (k0_pay7 (xR m c)) ?_
  blk_ext [hi]

/-- The array of the scales, written back whole. -/
theorem final9 (c : Dev nD) : (dats m 0 c).arrAt 9 cfg0.N = (k0_pay3 (k0_pay6 (xR m c)) : S1x200.Idx → Elt F .f32) := by
  refine (dats m 0 c).arrAt_eq_of_covers 9 _ (by decide +kernel) fun t hf y => ?_
  have hi : win0_9.index t0_0 = ![0, 0] := by decide +kernel
  obtain rfl := point_eq t
  blk_simp
  rw [after0_9]
  frame_out
  refine congrArg (k0_pay3 (k0_pay6 (xR m c))) ?_
  blk_ext [hi]

/-- The activation block is the whole argument `x`. -/
theorem x_read (c : Dev nD) (r : Fin 200) (l : Fin 1536) :
    xR m c (ix2 r l) = m ((c : Thread nD τ).loc main_arg0) (ix3 r (0 : Fin 1) l) := by
  have hi : win0_0.index t0_0 = ![0, 0] := by decide +kernel
  blk_simp [iblk]
  entry_read
  pointwise
  blk_ext [hi]

/-- The block of `wu` is the whole argument. -/
theorem wu_read (c : Dev nD) (d : Fin 1536) (j : Fin 8960) :
    wuR m c (ix2 d j) = m ((c : Thread nD τ).loc main_arg1) (ix2 d j) := by
  have hi : win0_1.index t0_0 = ![0, 0] := by decide +kernel
  blk_ext [iblk, V, hi]

/-- The block of `wd` is the whole argument. -/
theorem wd_read (c : Dev nD) (d : Fin 8960) (j : Fin 1536) :
    wdR m c (ix2 d j) = m ((c : Thread nD τ).loc main_arg4) (ix2 d j) := by
  have hi : win0_4.index t0_0 = ![0, 0] := by decide +kernel
  blk_ext [iblk, V, hi]

/-- The block of `su` is the whole argument, as one row. -/
theorem su_read (c : Dev nD) (j : Fin 8960) :
    suR m c (ix2 (0 : Fin 1) j) = m ((c : Thread nD τ).loc main_arg2) (ix1 j) := by
  have hi : win0_2.index t0_0 = ![0, 0] := by decide +kernel
  blk_simp [iblk]
  entry_read
  pointwise
  blk_ext [hi]

/-- The block of `b` is the whole argument, as one row. -/
theorem b_read (c : Dev nD) (j : Fin 8960) :
    bR m c (ix2 (0 : Fin 1) j) = m ((c : Thread nD τ).loc main_arg3) (ix1 j) := by
  have hi : win0_3.index t0_0 = ![0, 0] := by decide +kernel
  blk_simp [iblk]
  entry_read
  pointwise
  blk_ext [hi]

/-- The block of `sd` is the whole argument, as one row. -/
theorem sd_read (c : Dev nD) (j : Fin 1536) :
    sdR m c (ix2 (0 : Fin 1) j) = m ((c : Thread nD τ).loc main_arg5) (ix1 j) := by
  have hi : win0_5.index t0_0 = ![0, 0] := by decide +kernel
  blk_simp [iblk]
  entry_read
  pointwise
  blk_ext [hi]

/-- The reference run, each result array named by the payload it holds. -/
theorem run : θ_run defs (onTc (τ := τ) (main (F := F))) ⟨m, fun _ => 0, ρ⟩ fun r => ∀ c : Dev nD,
      r.2.mem ((c : Thread nD τ).loc main_v4_0) = (k0_pay2 (k0_pay8 (xR m c) (wuR m c) (suR m c)) (bR m c) (wdR m c) (sdR m c) : S200x1536.Idx → Elt F .bf16)
      ∧ r.2.mem ((c : Thread nD τ).loc main_v4_1) = (k0_pay1 (k0_pay8 (xR m c) (wuR m c) (suR m c)) (bR m c) : S200x8960.Idx → Elt F .bf16)
      ∧ r.2.mem ((c : Thread nD τ).loc main_v4_2) = (k0_pay7 (xR m c) : S200x1536.Idx → Elt F .fp8e4m3)
      ∧ r.2.mem ((c : Thread nD τ).loc main_v4_3) = (k0_pay3 (k0_pay6 (xR m c)) : S1x200.Idx → Elt F .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => by
    obtain ⟨h6, h7, h8, h9, rest⟩ := h c
    exact ⟨h6.trans (final6 m c), h7.trans (final7 m c), h8.trans (final8 m c), h9.trans (final9 m c), rest⟩)
    (Value.run_blocks m ρ)

end Cert.ReferenceIdeal.Ref

end
-- ==== Proof.Eq.RRows.lean ====
/- The reference's arrays row by row, in the words of Eq/Scale. -/
module

public import proofs.«01_k».proof.Proof.Ref.Value
public import proofs.«01_k».proof.Proof.Eq.Row
public import Idealize.ShloMosaic.Lib.Pipeline.ValueKit
public import Idealize.ShloMosaic.Lib.Pointwise

@[expose] public section

set_option maxRecDepth 16384

noncomputable section

namespace Cert.ReferenceIdeal.Rows

open Idealize.ShloMosaic Idealize.ShloMosaic.TcCoe Idealize.ShloMosaic.Tactic
open Cert.ReferenceIdeal Cert.ReferenceIdeal.Gen

/-- The reference's exponent at row `r`. -/
theorem pay5_read (x : Vec Ideal S200x1536 .bf16) (r : Fin 200) :
    k0_pay5 x (ix2 r (0 : Fin 1)) = Scale.refExpo (Scale.rowS (fun r k => x (ix2 r k)) r) := by
  pointwise [k0_pay5, k0_pay4]
  rfl

/-- The reference's scale at row `r`. -/
theorem pay6_read (x : Vec Ideal S200x1536 .bf16) (r : Fin 200) :
    k0_pay6 x (ix2 r (0 : Fin 1)) = Ideal.exp2 (Scale.refExpo (Scale.rowS (fun r k => x (ix2 r k)) r)) := by
  rw [← pay5_read]
  pointwise [k0_pay6]
  rfl

/-- A code of row `r`. -/
theorem codes_read (x : Vec Ideal S200x1536 .bf16) (r : Fin 200) (l : Fin 1536) :
    k0_pay7 x (ix2 r l) = min (Ideal.ofBits .f32 0x43E00000#32) (max (Ideal.ofBits .f32 0xC3E00000#32)
      (x (ix2 r l) * Ideal.exp2 (0 - Scale.refExpo (Scale.rowS (fun r k => x (ix2 r k)) r)))) := by
  rw [← pay5_read]
  pointwise [k0_pay7, k0_pay4]
  rfl

/-- The written scale of row `r`. -/
theorem scales_read (x : Vec Ideal S200x1536 .bf16) (r : Fin 200) :
    k0_pay3 (k0_pay6 x) (ix2 (0 : Fin 1) r) = Ideal.exp2 (Scale.refExpo (Scale.rowS (fun r k => x (ix2 r k)) r)) := by
  rw [← pay6_read]
  pointwise [k0_pay3]

/-- The hidden value at row `r`, column `j`. -/
theorem h_read (x : Vec Ideal S200x1536 .bf16) (wu : Vec Ideal S1536x8960 .fp8e4m3) (su b : Vec Ideal S1x8960 .f32) (r : Fin 200) (j : Fin 8960) :
    k0_pay1 (k0_pay8 x wu su) b (ix2 r j) = max ((∑ k : Fin 1536, k0_pay7 x (ix2 r k) * wu (ix2 k j))
      * k0_pay6 x (ix2 r (0 : Fin 1)) * su (ix2 (0 : Fin 1) j) + b (ix2 (0 : Fin 1) j)) 0 := by
  pointwise [k0_pay1, k0_pay8]

/-- The output at row `r`, column `l`. -/
theorem y_read (v39 : FVec Ideal S200x8960 .f32) (b : Vec Ideal S1x8960 .f32) (wd : Vec Ideal S8960x1536 .i8) (sd : Vec Ideal S1x1536 .f32) (r : Fin 200) (l : Fin 1536) :
    k0_pay2 v39 b wd sd (ix2 r l) = (∑ k : Fin 8960, k0_pay1 v39 b (ix2 r k) * FloatOps.sitofp (F := Ideal) .bf16 (wd (ix2 k l)))
      * sd (ix2 (0 : Fin 1) l) := by
  pointwise [k0_pay2]

end Cert.ReferenceIdeal.Rows

end
-- ==== Proof.Eq.Same.lean ====
/- Both programs' arrays are equal, entry by entry, once the inputs are and every row's scaled maximum is in range. -/
module

public import proofs.«01_k».proof.Proof.Run.Value
public import proofs.«01_k».proof.Proof.Eq.KRows
public import proofs.«01_k».proof.Proof.Eq.KHidden
public import proofs.«01_k».proof.Proof.Eq.RRows

@[expose] public section

set_option maxRecDepth 16384

noncomputable section

namespace Cert.Same

open Idealize.ShloMosaic Idealize.ShloMosaic.TcCoe Idealize.ShloMosaic.Tactic

/-- A sum over 8960 hidden columns is the sum, block by block, over 7 blocks of 1280. -/
theorem sum_blocks (f : Fin 8960 → EReal) :
    ∑ j : Fin 8960, f j = ∑ n ∈ Finset.range 7, ∑ k : Fin 1280, (if h : n < 7 then f ⟨1280 * n + k.val, by omega⟩ else 0) := by
  rw [Finset.sum_range]
  rw [← Fintype.sum_prod_type' (fun (n : Fin 7) (k : Fin 1280) => (if h : n.val < 7 then f ⟨1280 * n.val + k.val, by omega⟩ else 0))]
  symm
  refine Fintype.sum_equiv (finProdFinEquiv (m := 7) (n := 1280)) _ _ fun p => ?_
  rw [dif_pos p.1.isLt]
  refine congrArg f (Fin.ext ?_)
  show 1280 * p.1.val + p.2.val = p.2.val + 1280 * p.1.val
  omega

section
open Cert.KernelIdeal Cert.KernelIdeal.Gen Cert.KernelIdeal.Run
variable (m : (ℓ : Loc nD τ sig) → Buf (Elt Ideal) ℓ) (c : Dev nD)

/-- The kernel's activation, read off its argument. -/
def X (r : Fin 200) (k : Fin 1536) : EReal := m ((c : Thread nD τ).loc main_arg0) (ix3 r (0 : Fin 1) k)
/-- The kernel's up-projection weights. -/
def WU (k : Fin 1536) (j : Fin 8960) : EReal := m ((c : Thread nD τ).loc main_arg1) (ix2 k j)
/-- The up-projection's column scales. -/
def SU (j : Fin 8960) : EReal := m ((c : Thread nD τ).loc main_arg2) (ix1 j)
/-- The bias. -/
def B (j : Fin 8960) : EReal := m ((c : Thread nD τ).loc main_arg3) (ix1 j)
/-- The kernel's down-projection weights, as reals. -/
def WD (j : Fin 8960) (l : Fin 1536) : EReal := FloatOps.sitofp (F := Idealize.ShloMosaic.Ideal) .bf16 (m ((c : Thread nD τ).loc main_arg4) (ix2 j l) : BitVec 8)
/-- The down-projection's column scales. -/
def SD (l : Fin 1536) : EReal := m ((c : Thread nD τ).loc main_arg5) (ix1 l)

/-- A code, as both programs compute it from the inverse scale `i`. -/
def code (x i : EReal) : EReal := min (Ideal.ofBits .f32 0x43E00000#32) (max (Ideal.ofBits .f32 0xC3E00000#32) (x * i))

/-- The scaled maximum of row `r`. -/
def S (r : Fin 200) : EReal := Scale.rowS (X m c) r

/-- A hidden value. -/
def H (r : Fin 200) (j : Fin 8960) : EReal :=
  max ((∑ k : Fin 1536, code (X m c r k) (Scale.inv (S m c r)) * WU m c k j) * Scale.scale (S m c r) * SU m c j + B m c j) 0

/-- The kernel's activation block is `X`. -/
theorem x_eq : (fun r k => xB m c (ix2 r k)) = X m c := by
  funext r k
  exact x_read m c r k

/-- The kernel's codes. -/
theorem k_codes (r : Fin 200) (l : Fin 1536) : codesOf (xB m c) (ix2 r l) = code (X m c r l) (Scale.inv (S m c r)) := by
  rw [Rows.codes_read, x_eq, x_read]
  rfl

/-- The kernel's written scales. -/
theorem k_scales (r : Fin 200) : scalesOf (xB m c) (ix2 (0 : Fin 1) r) = Scale.scale (S m c r) := by
  rw [Rows.scales_read, x_eq]
  rfl

/-- The kernel's hidden block at point `t`. -/
theorem k_hidden (t : Fin cfg0.N) (ht : t.val < 7) (r : Fin 200) (j : Fin 1280) :
    hAt m c t (ix2 r j) = H m c r ⟨1280 * t.val + j.val, by omega⟩ := by
  have hc : (grid0.coords t 0).val = t.val := (by decide +kernel : ∀ t : Fin cfg0.N, (grid0.coords t 0).val = t.val) t
  unfold hAt
  rw [hc, Rows.h_read t.val ht _ _ _ _ _ (fun r => Scale.scale (S m c r)) (SU m c) (B m c)
    (fun r l => by rw [Rows.sb_read, x_eq]; rfl) (fun r l => su_read m c t r l) (fun r l => b_read m c t r l) r j, Rows.up_read]
  have e : ∀ k : Fin 1536, xqOf (xB m c) (ix2 (⟨r.val, by omega⟩ : Fin 224) k) * iblk m c 1 t (ix2 k j)
      = code (X m c r k) (Scale.inv (S m c r)) * WU m c k ⟨1280 * t.val + j.val, by omega⟩ := fun k => by
    rw [Rows.xq_read, k_codes, wu_read]
    rfl
  rw [Finset.sum_congr rfl fun k _ => e k]
  rfl

/-- The accumulator after point `n` is the sum of the blocks so far. -/
theorem k_acc (n : ℕ) (hn : n < 7) (r : Fin 200) (l : Fin 1536) : accAt m c n (ix2 r l)
    = ∑ i ∈ Finset.range (n + 1), ∑ k : Fin 1280, (if h : i < 7 then H m c r ⟨1280 * i + k.val, by omega⟩ * WD m c ⟨1280 * i + k.val, by omega⟩ l else 0) := by
  have term : ∀ i (hi : i < 7), (∑ k : Fin 1280, hAt m c (pt i) (ix2 r k) * FloatOps.sitofp (F := Idealize.ShloMosaic.Ideal) .bf16 (iblk m c 4 (pt i) (ix2 k l)))
      = ∑ k : Fin 1280, (if h : i < 7 then H m c r ⟨1280 * i + k.val, by omega⟩ * WD m c ⟨1280 * i + k.val, by omega⟩ l else 0) := by
    intro i hi
    have hv : (pt i).val = i := Nat.mod_eq_of_lt hi
    refine Finset.sum_congr rfl fun k _ => ?_
    rw [dif_pos hi, k_hidden m c (pt i) (by omega), wd_read]
    unfold WD
    have e : (⟨1280 * (pt i).val + k.val, by omega⟩ : Fin 8960) = ⟨1280 * i + k.val, by omega⟩ := Fin.ext (by dsimp only; omega)
    exact congrArg₂ (· * ·) (congrArg (H m c r) e) (congrArg (fun q : Fin 8960 => FloatOps.sitofp (F := Idealize.ShloMosaic.Ideal) .bf16 (m ((c : Thread nD τ).loc main_arg4) (ix2 q l) : BitVec 8)) e)
  induction n with
  | zero =>
    unfold accAt
    rw [Rows.acc_read, Rows.acc0_read, zero_add, Finset.sum_range_one]
    exact term 0 (by omega)
  | succ n ih =>
    unfold accAt
    rw [Rows.acc_read, Finset.sum_range_succ, ih (by omega) term]
    exact congrArg₂ (· + ·) rfl (term (n + 1) hn)

/-- The kernel's output. -/
theorem k_out (r : Fin 200) (l : Fin 1536) : yOf (accAt m c 6) (iblk m c 5 (pt 6)) (ix2 r l)
    = (∑ j : Fin 8960, H m c r j * WD m c j l) * SD m c l := by
  rw [sum_blocks (fun j => H m c r j * WD m c j l), ← k_acc m c 6 (by omega)]
  refine congrArg₂ (fun p q : EReal => p * q) rfl ?_
  have h := sd_read m c (pt 6) (⟨l.val / 128, by omega⟩ : Fin 12) (⟨l.val % 128, by omega⟩ : Fin 128)
  have e : (⟨128 * (l.val / 128) + l.val % 128, by omega⟩ : Fin 1536) = l := Fin.ext (by dsimp only; omega)
  refine Eq.trans ?_ (h.trans (congrArg (SD m c) e))
  refine congrArg (iblk m c 5 (pt 6)) (funext fun a => ?_)
  match a with
  | ⟨0, _⟩ => rfl
  | ⟨1, _⟩ => rfl

/-- Column `l` of the kernel's hidden array. -/
theorem k_h (r : Fin 200) (j : Fin 8960) : hAt m c (pt (j.val / 1280)) (ix2 r (⟨j.val % 1280, Nat.mod_lt _ (by decide)⟩ : Fin 1280)) = H m c r j := by
  have hv : (pt (j.val / 1280)).val = j.val / 1280 := Nat.mod_eq_of_lt (by omega)
  rw [k_hidden m c _ (by omega)]
  exact congrArg (H m c r) (Fin.ext (by dsimp only; omega))

/-! ## The reference, on the same inputs -/

variable (hok : ∀ r, Scale.Ok (S m c r)) (x : Vec Idealize.ShloMosaic.Ideal S200x1536 .bf16) (hx : (fun r k => x (ix2 r k)) = X m c)
include hok hx

/-- The reference's codes. -/
theorem r_codes (r : Fin 200) (l : Fin 1536) : Cert.ReferenceIdeal.Gen.k0_pay7 x (ix2 r l) = code (X m c r l) (Scale.inv (S m c r)) := by
  rw [Cert.ReferenceIdeal.Rows.codes_read, hx]
  unfold code
  rw [(Scale.scale_inv_eq _ (hok r)).2]
  exact congrArg (fun q => min _ (max _ (q * _))) (congrFun (congrFun hx r) l)

/-- The reference's scale of a row. -/
theorem r_scale (r : Fin 200) : Cert.ReferenceIdeal.Gen.k0_pay6 x (ix2 r (0 : Fin 1)) = Scale.scale (S m c r) := by
  rw [Cert.ReferenceIdeal.Rows.pay6_read, hx, (Scale.scale_inv_eq _ (hok r)).1]
  rfl

/-- The reference's written scales. -/
theorem r_scales (r : Fin 200) : Cert.ReferenceIdeal.Gen.k0_pay3 (Cert.ReferenceIdeal.Gen.k0_pay6 x) (ix2 (0 : Fin 1) r) = Scale.scale (S m c r) := by
  rw [Cert.ReferenceIdeal.Rows.scales_read, hx, (Scale.scale_inv_eq _ (hok r)).1]
  rfl

variable (wu : Vec Idealize.ShloMosaic.Ideal Cert.ReferenceIdeal.S1536x8960 .fp8e4m3) (hwu : ∀ k j, wu (ix2 k j) = WU m c k j)
variable (su b : Vec Idealize.ShloMosaic.Ideal Cert.ReferenceIdeal.S1x8960 .f32) (hsu : ∀ j, su (ix2 (0 : Fin 1) j) = SU m c j) (hb : ∀ j, b (ix2 (0 : Fin 1) j) = B m c j)
include hwu hsu hb

/-- The reference's hidden values. -/
theorem r_h (r : Fin 200) (j : Fin 8960) :
    Cert.ReferenceIdeal.Gen.k0_pay1 (Cert.ReferenceIdeal.Gen.k0_pay8 x wu su) b (ix2 r j) = H m c r j := by
  rw [Cert.ReferenceIdeal.Rows.h_read, hsu, hb, r_scale m c hok x hx]
  have e : ∀ k : Fin 1536, Cert.ReferenceIdeal.Gen.k0_pay7 x (ix2 r k) * wu (ix2 k j) = code (X m c r k) (Scale.inv (S m c r)) * WU m c k j :=
    fun k => by rw [r_codes m c hok x hx, hwu]
  rw [Finset.sum_congr rfl fun k _ => e k]
  rfl

/-- The reference's output. -/
theorem r_out (wd : Vec Idealize.ShloMosaic.Ideal Cert.ReferenceIdeal.S8960x1536 .i8) (sd : Vec Idealize.ShloMosaic.Ideal Cert.ReferenceIdeal.S1x1536 .f32)
    (hwd : ∀ j l, FloatOps.sitofp (F := Idealize.ShloMosaic.Ideal) .bf16 (wd (ix2 j l) : BitVec 8) = WD m c j l) (hsd : ∀ l, sd (ix2 (0 : Fin 1) l) = SD m c l)
    (r : Fin 200) (l : Fin 1536) :
    Cert.ReferenceIdeal.Gen.k0_pay2 (Cert.ReferenceIdeal.Gen.k0_pay8 x wu su) b wd sd (ix2 r l) = (∑ j : Fin 8960, H m c r j * WD m c j l) * SD m c l := by
  rw [Cert.ReferenceIdeal.Rows.y_read, hsd]
  have e : ∀ k : Fin 8960, Cert.ReferenceIdeal.Gen.k0_pay1 (Cert.ReferenceIdeal.Gen.k0_pay8 x wu su) b (ix2 r k) * FloatOps.sitofp (F := Idealize.ShloMosaic.Ideal) .bf16 (wd (ix2 k l))
      = H m c r k * WD m c k l := fun k => by rw [r_h m c hok x hx wu hwu su b hsu hb]; exact congrArg (H m c r k * ·) (hwd k l)
  rw [Finset.sum_congr rfl fun k _ => e k]

end

end Cert.Same

end
-- ==== Proof.Eq.Pre.lean ====
/- The precondition, read at a row: the row's scaled maximum is zero or normal, and below the bound or infinite. -/
module

public import proofs.«01_k».proof.Pre_scaled_max_in_range
public import proofs.«01_k».proof.Proof.Eq.Row
public import Idealize.ShloMosaic.Lib.Pipeline.ValueKit
public import Idealize.ShloMosaic.Lib.Pointwise

@[expose] public section

set_option maxRecDepth 16384

noncomputable section

namespace Cert.Pre_scaled_max_in_range

open Idealize.ShloMosaic Idealize.ShloMosaic.Tactic

/-- The side conditions the precondition's operations take. -/
theorem facts : Facts where
  bitsLt_bf16_f32 := by decide
  reducesTo_S200x1x1536_S200x1_d2 := by decide
  h_S_ := by decide
  bcast_S_S200x1 := by decide

/-- Four comparisons joined as the precondition joins them. -/
theorem bits : ∀ p q u v : Bool, IntOp.andi (IntOp.ori (BitVec.ofBool p) (BitVec.ofBool q)) (IntOp.ori (BitVec.ofBool u) (BitVec.ofBool v)) = 1#1
    → (p = true ∨ q = true) ∧ (u = true ∨ v = true) := by
  decide

/-- The precondition's test of one value, true only in range. -/
theorem ok_of_bits (s : EReal) (h : IntOp.andi
      (IntOp.ori (BitVec.ofBool (decide (s = 0))) (BitVec.ofBool (decide (Ideal.ofBits .f32 8388608#32 ≤ s))))
      (IntOp.ori (BitVec.ofBool (decide (s < Ideal.ofBits .f32 2122317824#32))) (BitVec.ofBool (decide (s = Ideal.ofBits .f32 2139095040#32)))) = 1#1) :
    Scale.Ok s := by
  have w1 : Scale.word (BitVec.ofNat 32 1) = 8388608#32 := by unfold Scale.word IntOp.shli; decide +kernel
  have w253 : Scale.word (BitVec.ofNat 32 253) = 2122317824#32 := by unfold Scale.word IntOp.shli; decide +kernel
  have w255 : Scale.word (BitVec.ofNat 32 255) = 2139095040#32 := by unfold Scale.word IntOp.shli; decide +kernel
  rw [← w1, ← w253, ← w255, Scale.ofBits_word 1 (by omega) (by omega), Scale.ofBits_word 253 (by omega) (by omega), Scale.ofBits_word_top] at h
  obtain ⟨h1, h2⟩ := bits _ _ _ _ h
  simp only [decide_eq_true_eq] at h1 h2
  rw [show ((1 : ℕ) : ℤ) - 127 = -126 by norm_num] at h1
  rw [show ((253 : ℕ) : ℤ) - 127 = 126 by norm_num] at h2
  exact ⟨h1, h2⟩

/-- Where the precondition holds, every row's scaled maximum is in range. -/
theorem ok [Facts] (a0 : FVec Ideal S200x1x1536 .bf16) (a1 : FVec Ideal S1536x8960 .fp8e4m3) (a2 a3 : FVec Ideal S8960 .f32)
    (a4 : IVec S8960x1536 8) (a5 : FVec Ideal S1536 .f32) (h : fn a0 a1 a2 a3 a4 a5 = fun _ => 1#1) (r : Fin 200) :
    Scale.Ok (Scale.rowS (fun r k => a0 (ix3 r (0 : Fin 1) k)) r) := by
  have h1 := congrFun h (ix2 r (0 : Fin 1))
  revert h1
  pointwise [fn]
  exact ok_of_bits _

end Cert.Pre_scaled_max_in_range

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KRun.Frame
public import proofs.«01_k».proof.Proof.Eq.Same
public import proofs.«01_k».proof.Proof.Eq.Pre
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- A rank-2 index is the pair of its coordinates. -/
theorem ix2_eta {a b : ℕ} (i : (⟨2, ![a, b]⟩ : Shape).Idx) : i = ix2 (i 0) (i 1) := by
  funext k
  match k with
  | ⟨0, _⟩ => rfl
  | ⟨1, _⟩ => rfl

/-- The kernel and the reference, from equal arguments in range, end with the same four arrays. -/
theorem algebraic : Cert.algebraic_KernelIdeal_ReferenceIdeal_pre_scaled_max_in_range (hKernelIdeal := Cert.KernelIdeal.Gen.facts)
    (hReferenceIdeal := Cert.ReferenceIdeal.Gen.facts) (hPre_scaled_max_in_range := Cert.Pre_scaled_max_in_range.facts) := by
  intro m g m' g' hpre hargs
  have hok : ∀ c r, Scale.Ok (Same.S m c r) := fun c r =>
    @Cert.Pre_scaled_max_in_range.ok Cert.Pre_scaled_max_in_range.facts _ _ _ _ _ _ (hpre c) r
  have hx : ∀ c, (fun r k => Cert.ReferenceIdeal.Ref.xR m' c (ix2 r k)) = Same.X m c := fun c => by
    funext r k
    exact (Cert.ReferenceIdeal.Ref.x_read m' c r k).trans (congrFun (hargs c).1 _)
  have hwu : ∀ c k j, Cert.ReferenceIdeal.Ref.wuR m' c (ix2 k j) = Same.WU m c k j := fun c k j =>
    (Cert.ReferenceIdeal.Ref.wu_read m' c k j).trans (congrFun (hargs c).2.1 _)
  have hsu : ∀ c j, Cert.ReferenceIdeal.Ref.suR m' c (ix2 (0 : Fin 1) j) = Same.SU m c j := fun c j =>
    (Cert.ReferenceIdeal.Ref.su_read m' c j).trans (congrFun (hargs c).2.2.1 _)
  have hb : ∀ c j, Cert.ReferenceIdeal.Ref.bR m' c (ix2 (0 : Fin 1) j) = Same.B m c j := fun c j =>
    (Cert.ReferenceIdeal.Ref.b_read m' c j).trans (congrFun (hargs c).2.2.2.1 _)
  have hwd : ∀ c j l, FloatOps.sitofp (F := Idealize.ShloMosaic.Ideal) .bf16 (Cert.ReferenceIdeal.Ref.wdR m' c (ix2 j l) : BitVec 8) = Same.WD m c j l := fun c j l =>
    congrArg (fun q : BitVec 8 => FloatOps.sitofp (F := Idealize.ShloMosaic.Ideal) .bf16 q)
      ((Cert.ReferenceIdeal.Ref.wd_read m' c j l).trans (congrFun (hargs c).2.2.2.2.1 _))
  have hsd : ∀ c l, Cert.ReferenceIdeal.Ref.sdR m' c (ix2 (0 : Fin 1) l) = Same.SD m c l := fun c l =>
    (Cert.ReferenceIdeal.Ref.sd_read m' c l).trans (congrFun (hargs c).2.2.2.2.2 _)
  refine ⟨_, _, _, _, Cert.KernelIdeal.Run.run m g, ?_⟩
  refine (θ_run _ _ _).mono (fun r h c => ?_) (Cert.ReferenceIdeal.Ref.run m' g')
  obtain ⟨h0, h1, h2, h3, rest⟩ := h c
  refine ⟨h0.trans (funext fun i => ?_), h1.trans (funext fun i => ?_), h2.trans (funext fun i => ?_), h3.trans (funext fun i => ?_), rest⟩
  · obtain ⟨a, l, rfl⟩ : ∃ (a : Fin 200) (l : Fin 1536), i = ix2 a l := ⟨_, _, ix2_eta i⟩
    exact (Same.r_out m c (hok c) _ (hx c) _ (hwu c) _ _ (hsu c) (hb c) _ _ (hwd c) (hsd c) a l).trans (Same.k_out m c a l).symm
  · obtain ⟨a, j, rfl⟩ : ∃ (a : Fin 200) (j : Fin 8960), i = ix2 a j := ⟨_, _, ix2_eta i⟩
    exact (Same.r_h m c (hok c) _ (hx c) _ (hwu c) _ _ (hsu c) (hb c) a j).trans (Same.k_h m c a j).symm
  · obtain ⟨a, l, rfl⟩ : ∃ (a : Fin 200) (l : Fin 1536), i = ix2 a l := ⟨_, _, ix2_eta i⟩
    exact (Same.r_codes m c (hok c) _ (hx c) a l).trans (Same.k_codes m c a l).symm
  · obtain ⟨z, a, rfl⟩ : ∃ (z : Fin 1) (a : Fin 200), i = ix2 z a := ⟨_, _, ix2_eta i⟩
    obtain rfl : z = 0 := Subsingleton.elim _ _
    exact (Same.r_scales m c (hok c) _ (hx c) a).trans (Same.k_scales m c a).symm

/-- Everything claimed: the frames, the kernel's idealization, and the equality of the results. -/
theorem claim : Cert.Claim :=
  ⟨Cert.Kernel.Gen.facts, Cert.KernelIdeal.Gen.facts, Cert.ReferenceIdeal.Gen.facts, Cert.Pre_scaled_max_in_range.facts,
    fun m g _ => Cert.Kernel.Run.frame m g,
    fun m g _ => Cert.KernelIdeal.Run.frame m g,
    fun m g _ => Cert.KernelIdeal.Run.frame m g,
    fun m g _ => Cert.ReferenceIdeal.Gen.frame m g,
    fun m g _ => Cert.ReferenceIdeal.Gen.frame m g,
    trivial,
    algebraic⟩

end Cert.Proof

end
